-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S64x512 : Shape := ⟨2, ![64, 512]⟩
abbrev S8x64x512 : Shape := ⟨3, ![8, 64, 512]⟩
abbrev S7x64x512 : Shape := ⟨3, ![7, 64, 512]⟩
abbrev S7 : Shape := ⟨1, ![7]⟩
abbrev S_ : Shape := ⟨0, ![]⟩
abbrev S1x2 : Shape := ⟨2, ![1, 2]⟩
abbrev S512x2 : Shape := ⟨2, ![512, 2]⟩
abbrev S512x512 : Shape := ⟨2, ![512, 512]⟩
abbrev S1x64x512 : Shape := ⟨3, ![1, 64, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S64x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S64x512, .f32⟩
  | .local _ .vmem, ⟨4, _⟩ => ⟨S8x64x512, .bf16⟩
  | .local _ .vmem, ⟨5, _⟩ => ⟨S7x64x512, .bf16⟩
  | .local _ .vmem, ⟨6, _⟩ => ⟨S7x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_41 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v72 : BitVec 32 := Scalar.addi v2 c1_i32_41
  let c8_i32_42 : BitVec 32 := 8#32
  let v73 : BitVec 32 := Scalar.remsi v72 c8_i32_42
  let v74 : Index := Scalar.indexCast v73
  let c0_43 : Index := 0#32
  let c0_44 : Index := 0#32
  ![v74.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v142 : Index := Scalar.indexCast v2
  let c0_91 : Index := 0#32
  let c0_92 : Index := 0#32
  ![v142.toNat, 0, 0]
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v146 : BitVec 32 := Scalar.addi v2 c1_i32_95
  let c8_i32_96 : BitVec 32 := 8#32
  let v147 : BitVec 32 := Scalar.remsi v146 c8_i32_96
  let c1_i32_101 : BitVec 32 := 1#32
  let v148 : BitVec 32 := Scalar.muli v147 c1_i32_101
  let v149 : BitVec 32 := Scalar.addi c0_i32_102 v148
  v149.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_107 : BitVec 32 := 2#32
  let v158 : BitVec 32 := Scalar.addi v2 c2_i32_107
  let c8_i32_108 : BitVec 32 := 8#32
  let v159 : BitVec 32 := Scalar.remsi v158 c8_i32_108
  let c1_i32_113 : BitVec 32 := 1#32
  let v160 : BitVec 32 := Scalar.muli v159 c1_i32_113
  let v161 : BitVec 32 := Scalar.addi c0_i32_114 v160
  v161.toNat
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_119 : BitVec 32 := 3#32
  let v170 : BitVec 32 := Scalar.addi v2 c3_i32_119
  let c8_i32_120 : BitVec 32 := 8#32
  let v171 : BitVec 32 := Scalar.remsi v170 c8_i32_120
  let c1_i32_125 : BitVec 32 := 1#32
  let v172 : BitVec 32 := Scalar.muli v171 c1_i32_125
  let v173 : BitVec 32 := Scalar.addi c0_i32_126 v172
  v173.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v182 : BitVec 32 := Scalar.addi v2 c4_i32_131
  let c8_i32_132 : BitVec 32 := 8#32
  let v183 : BitVec 32 := Scalar.remsi v182 c8_i32_132
  let c1_i32_137 : BitVec 32 := 1#32
  let v184 : BitVec 32 := Scalar.muli v183 c1_i32_137
  let v185 : BitVec 32 := Scalar.addi c0_i32_138 v184
  v185.toNat
def k0_dev12 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_143 : BitVec 32 := 5#32
  let v194 : BitVec 32 := Scalar.addi v2 c5_i32_143
  let c8_i32_144 : BitVec 32 := 8#32
  let v195 : BitVec 32 := Scalar.remsi v194 c8_i32_144
  let c1_i32_149 : BitVec 32 := 1#32
  let v196 : BitVec 32 := Scalar.muli v195 c1_i32_149
  let v197 : BitVec 32 := Scalar.addi c0_i32_150 v196
  v197.toNat
def k0_dev13 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_155 : BitVec 32 := 6#32
  let v206 : BitVec 32 := Scalar.addi v2 c6_i32_155
  let c8_i32_156 : BitVec 32 := 8#32
  let v207 : BitVec 32 := Scalar.remsi v206 c8_i32_156
  let c1_i32_161 : BitVec 32 := 1#32
  let v208 : BitVec 32 := Scalar.muli v207 c1_i32_161
  let v209 : BitVec 32 := Scalar.addi c0_i32_162 v208
  v209.toNat
def k0_dev14 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_167 : BitVec 32 := 7#32
  let v218 : BitVec 32 := Scalar.addi v2 c7_i32_167
  let c8_i32_168 : BitVec 32 := 8#32
  let v219 : BitVec 32 := Scalar.remsi v218 c8_i32_168
  let c1_i32_173 : BitVec 32 := 1#32
  let v220 : BitVec 32 := Scalar.muli v219 c1_i32_173
  let v221 : BitVec 32 := Scalar.addi c0_i32_174 v220
  v221.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S16 : Shape := ⟨1, ![16]⟩
abbrev S1x16 : Shape := ⟨2, ![1, 16]⟩
abbrev S512x16 : Shape := ⟨2, ![512, 16]⟩
abbrev S_ : Shape := ⟨0, ![]⟩
abbrev S512x16x512 : Shape := ⟨3, ![512, 16, 512]⟩
abbrev S512x16x1 : Shape := ⟨3, ![512, 16, 1]⟩
abbrev S512x512 : Shape := ⟨2, ![512, 512]⟩

abbrev nBuf : Space → Nat
  | .hbm => 29
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S16, .i32⟩
  | .hbm, ⟨5, _⟩ => ⟨S1x16, .i32⟩
  | .hbm, ⟨6, _⟩ => ⟨S512x16, .i32⟩
  | .hbm, ⟨7, _⟩ => ⟨S512x16, .i32⟩
  | .hbm, ⟨8, _⟩ => ⟨S512x16, .i1⟩
  | .hbm, ⟨9, _⟩ => ⟨S512x16, .i32⟩
  | .hbm, ⟨10, _⟩ => ⟨S_, .i32⟩
  | .hbm, ⟨11, _⟩ => ⟨S_, .i32⟩
  | .hbm, ⟨12, _⟩ => ⟨S512x16, .i32⟩
  | .hbm, ⟨13, _⟩ => ⟨S512x16, .i32⟩
  | .hbm, ⟨14, _⟩ => ⟨S_, .i32⟩
  | .hbm, ⟨15, _⟩ => ⟨S512x16, .i32⟩
  | .hbm, ⟨16, _⟩ => ⟨S512x16, .i1⟩
  | .hbm, ⟨17, _⟩ => ⟨S512x16, .i1⟩
  | .hbm, ⟨18, _⟩ => ⟨S512x256, .f32⟩
  | .hbm, ⟨19, _⟩ => ⟨S16x256x512, .f32⟩
  | .hbm, ⟨20, _⟩ => ⟨S512x16x512, .f32⟩
  | .hbm, ⟨21, _⟩ => ⟨S512x16x1, .i1⟩
  | .hbm, ⟨22, _⟩ => ⟨S_, .f32⟩
  | .hbm, ⟨23, _⟩ => ⟨S_, .f32⟩
  | .hbm, ⟨24, _⟩ => ⟨S512x16x512, .i1⟩
  | .hbm, ⟨25, _⟩ => ⟨S512x16x512, .f32⟩
  | .hbm, ⟨26, _⟩ => ⟨S512x16x512, .f32⟩
  | .hbm, ⟨27, _⟩ => ⟨S_, .f32⟩
  | .hbm, ⟨28, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.SameText.lean ====
/-
The kernel and its idealization have the same text, and so, at the same floats, the same table of bodies.
-/
module

public import proofs.«01_k».proof.Defs
public import proofs.«01_k».proof.Proof.Gen.Kernel
public import proofs.«01_k».proof.Proof.Gen.KernelIdeal

@[expose] public section

noncomputable section

namespace Cert.Exchange

open Idealize.ShloMosaic

/-- The one body is the same in both programs. -/
theorem bodies_eq (F : FTy → Type) [FloatOps F] : Cert.KernelIdeal.defs₀ (F := F) = Cert.Kernel.defs₀ (F := F) := by
  funext p l a
  match l with
  | 0 =>
    match p with
    | .tc => rfl
    | .scScalar _ => rfl
    | .scVector _ _ => rfl

/-- So is the table that the pipeline makes from it. -/
theorem tables_eq (F : FTy → Type) [FloatOps F] : Cert.KernelIdeal.defs (F := F) = Cert.Kernel.defs (F := F) :=
  congrArg (Pipeline.defs Cert.Kernel.pcfgs) (bodies_eq F)

end Cert.Exchange

end
-- ==== Proof.Cells.lean ====
/-
The eight devices, the semaphore cells each of them waits on, and the seven slots of the two
exchange buffers. Everything is indexed by a transfer number `o : Fin 7`: device `c` sends its
transfer `o` to `peer c o`, and receives transfer `o` of `origin c o`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Who talks to whom -/

set_option backward.proofsInPublic true in
/-- The device that transfer `o` of device `c` goes to: `o + 1` places on. -/
def peer (c : Dev nD) (o : Fin 7) : Dev nD := ⟨(c.val + o.val + 1) % 8, Nat.mod_lt _ (by decide)⟩

set_option backward.proofsInPublic true in
/-- The device whose transfer `o` comes to device `c`: `o + 1` places back. -/
def origin (c : Dev nD) (o : Fin 7) : Dev nD := ⟨(c.val + 7 - o.val) % 8, Nat.mod_lt _ (by decide)⟩

set_option backward.proofsInPublic true in
/-- The transfer number seen from the other end: `6 - o`. -/
def back (o : Fin 7) : Fin 7 := ⟨6 - o.val, by omega⟩

theorem origin_peer (c : Dev nD) (o : Fin 7) : origin (peer c o) o = c := by revert c o; decide
theorem peer_origin (c : Dev nD) (o : Fin 7) : peer (origin c o) o = c := by revert c o; decide
theorem peer_back (c : Dev nD) (o : Fin 7) : peer (peer c o) (back o) = c := by revert c o; decide
theorem back_back (o : Fin 7) : back (back o) = o := by revert o; decide

/-- Going `o + 1` places on is a rearrangement of the devices. -/
def turn (o : Fin 7) : Dev nD ≃ Dev nD :=
  ⟨fun c => peer c o, fun c => origin c o, fun c => origin_peer c o, fun c => peer_origin c o⟩

/-- Reading a transfer number from the other end rearranges the numbers. -/
def flip : Fin 7 ≃ Fin 7 := ⟨back, back, back_back, back_back⟩

/-! ## The semaphore cells -/

set_option backward.proofsInPublic true in
theorem inbS (o : Fin 7) : ∀ a, ![o.val] a + S1.size a ≤ S7.size a := by revert o; decide

/-- The barrier semaphore, and the send and receive semaphores of each transfer. -/
abbrev barS : Sem sig := (SemArray.scalar (sig.barrier 0 rfl) : Sems sig S_).sem
abbrev sendS (o : Fin 7) : DmaSem sig :=
  (((cc0_scratch3 : DmaSems sig S7).slice (Rect.unit (s := S7) ![o.val] S1.size (inbS o))).squeeze S_ squeezes_S1_S_).sem
abbrev recvS (o : Fin 7) : DmaSem sig :=
  (((cc0_scratch4 : DmaSems sig S7).slice (Rect.unit (s := S7) ![o.val] S1.size (inbS o))).squeeze S_ squeezes_S1_S_).sem

/-- A device's fifteen cells: the barrier, and per transfer its send (`false`) and its receive (`true`) cell. -/
abbrev Cell : Type := Option (Bool × Fin 7)

/-- The semaphore behind a cell. -/
abbrev csem : Cell → SemLoc sig
  | none => .reg barS
  | some (false, o) => .dma (sendS o)
  | some (true, o) => .dma (recvS o)

abbrev kcell (ck : Dev nD × Cell) : GSem nD τ sig := ((ck.1 : Thread nD τ), csem ck.2)
abbrev barCell (c : Dev nD) : GSem nD τ sig := ((c : Thread nD τ), .reg barS)
abbrev sendCell (c : Dev nD) (o : Fin 7) : GSem nD τ sig := ((c : Thread nD τ), .dma (sendS o))
abbrev recvCell (c : Dev nD) (o : Fin 7) : GSem nD τ sig := ((c : Thread nD τ), .dma (recvS o))

/-- Which cell a semaphore is, if it is one of the fifteen. -/
def cellAt (s : SemLoc sig) : Option Cell :=
  match s with
  | .reg _ => some none
  | .dma q =>
    if h : 4 ≤ q.val ∧ q.val < 11 then some (some (false, ⟨q.val - 4, by omega⟩))
    else if h : 11 ≤ q.val ∧ q.val < 18 then some (some (true, ⟨q.val - 11, by omega⟩)) else none

theorem cellAt_csem (x : Cell) : cellAt (csem x) = some x := by revert x; decide
theorem cellAt_bar : cellAt (.reg barS : SemLoc sig) = some none := rfl
theorem cellAt_send (o : Fin 7) : cellAt (.dma (sendS o) : SemLoc sig) = some (some (false, o)) := cellAt_csem (some (false, o))
theorem cellAt_recv (o : Fin 7) : cellAt (.dma (recvS o) : SemLoc sig) = some (some (true, o)) := cellAt_csem (some (true, o))

theorem csem_injective : Function.Injective csem := fun x y h => by
  have := congrArg cellAt h
  rw [cellAt_csem, cellAt_csem] at this
  exact Option.some.inj this

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-! ## The buffers and their slots -/

abbrev xM : Memref sig .tc .vmem S512x256 .bf16 := Memref.whole cc0_stg0_0
abbrev iM : Memref sig .tc .vmem S512x1 .i32 := Memref.whole cc0_stg1_0
abbrev wM : Memref sig .tc .vmem S2x256x512 .bf16 := Memref.whole cc0_stg2_0
abbrev oM : Memref sig .tc .vmem S64x512 .f32 := Memref.whole cc0_stg3_0
abbrev mM : Memref sig .tc .vmem S8x64x512 .bf16 := Memref.whole cc0_scratch0
abbrev sM : Memref sig .tc .vmem S7x64x512 .bf16 := Memref.whole cc0_scratch1
abbrev rM : Memref sig .tc .vmem S7x64x512 .bf16 := Memref.whole cc0_scratch2

set_option backward.proofsInPublic true in
theorem inb7 (o : Fin 7) : ∀ a, ![o.val, 0, 0] a + S1x64x512.size a ≤ S7x64x512.size a := by revert o; decide

/-- Slot `o` of a seven-slot buffer, as the rectangle a load or store names; -/
abbrev slotR (o : Fin 7) : Rect S7x64x512 := Rect.unit (s := S7x64x512) ![o.val, 0, 0] S1x64x512.size (inb7 o)
/-- and as the memref a transfer names. -/
abbrev slotOf (M : Memref sig .tc .vmem S7x64x512 .bf16) (o : Fin 7) : Memref sig .tc .vmem S64x512 .bf16 :=
  (M.slice (slotR o) (fun _ => rfl)).squeeze S64x512 squeezes_S1x64x512_S64x512

/-- The credit of one slot's transfer. -/
def N : ℕ := (slotOf rM 0).view.dmaCredit
theorem N_pos : 0 < N := View.dmaCredit_pos _ (by decide)
theorem credit_slot (o : Fin 7) : (slotOf rM o).view.dmaCredit = N := rfl
theorem credit_slot' (o : Fin 7) : (slotOf sM o).view.dmaCredit = N := rfl

/-- The elements of slot `o`. -/
abbrev slotI (o : Fin 7) : Finset S7x64x512.Idx := (slotR o).set

theorem send_set (o : Fin 7) : (slotOf sM o).view.set = slotI o :=
  (View.set_reshape (v := (sM.slice (slotR o) (fun _ => rfl)).view) _).trans (View.set_slice_whole cc0_scratch1 (slotR o))
theorem recv_set (o : Fin 7) : (slotOf rM o).view.set = slotI o :=
  (View.set_reshape (v := (rM.slice (slotR o) (fun _ => rfl)).view) _).trans (View.set_slice_whole cc0_scratch2 (slotR o))
theorem send_access (o : Fin 7) : (sM.access (slotR o)).set = slotI o := View.set_slice_whole cc0_scratch1 (slotR o)
theorem recv_access (o : Fin 7) : (rM.access (slotR o)).set = slotI o := View.set_slice_whole cc0_scratch2 (slotR o)

/-- The slots of a buffer are disjoint -/
theorem slot_disjoint (o o' : Fin 7) (h : o ≠ o') : Disjoint (slotI o) (slotI o') :=
  Ring.lead_disjoint (s := S7x64x512) (0 : Fin 3) 1 (fun j : Fin 7 => (![j.val, 0, 0] : Fin 3 → Nat)) S1x64x512.size inb7
    (fun j => by simp) rfl o o' h
/-- and make up the buffer. -/
theorem slot_cover : Finset.univ.biUnion slotI = Finset.univ :=
  Ring.lead_cover (s := S7x64x512) (0 : Fin 3) 1 (fun j : Fin 7 => (![j.val, 0, 0] : Fin 3 → Nat)) S1x64x512.size inb7
    (fun j => by simp) (fun j a ha => by fin_cases a <;> first | exact absurd rfl ha | rfl) rfl
    (fun a ha => by fin_cases a <;> first | exact absurd rfl ha | rfl) (by decide)

/-- What a load of slot `o` of the send buffer returns; -/
abbrev rdS (o : Fin 7) (f : sM.view.ty.Contents (Elt F)) : Vec F S1x64x512 .bf16 := sM.view.readAt (Elt F) (slotR o).toLoadRect f
/-- and of the receive buffer. -/
abbrev rdR (o : Fin 7) (f : rM.view.ty.Contents (Elt F)) : Vec F S1x64x512 .bf16 := rM.view.readAt (Elt F) (slotR o).toLoadRect f

omit [FloatOps F] in
/-- A load of the slot just stored returns what was stored. -/
theorem rdS_write (o : Fin 7) (f : sM.view.ty.Contents (Elt F)) (w : Vec F S1x64x512 .bf16) :
    rdS o ((sM.access (slotR o)).write (Elt F) f w Finset.univ) = w :=
  View.read_write_univ (v := sM.access (slotR o)) (Val := Elt F) f w

omit [FloatOps F] in
/-- What a transfer lands in slot `o` reads there as it reads in slot `o` of the sender's buffer. -/
theorem rdR_landed (o : Fin 7) (fd : rM.view.ty.Contents (Elt F)) (fs : sM.view.ty.Contents (Elt F)) :
    rdR o ((slotOf rM o).view.write (Elt F) fd ((slotOf sM o).view.read (Elt F) fs) Finset.univ) = rdS o fs := by
  have h := View.read_write_univ (v := (slotOf rM o).view) (Val := Elt F) fd ((slotOf sM o).view.read (Elt F) fs)
  funext x
  obtain ⟨y, rfl⟩ := (Shape.reshapeEquiv squeezes_S1x64x512_S64x512.numel_eq).surjective x
  exact congrFun h y

end Cert.Exchange

end
-- ==== Proof.Protocol.lean ====
/-
What the devices exchange, and the accounting of the semaphores: the values each device computes, what
every semaphore unit hands over, what each device owes, and in which order the waits may block.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own, and the exchange's (a cell's duties are numbered by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The state at launch: memory `m`, every semaphore counter zero, generator registers `ρ`. -/
def s₀ : MemSt nD τ sig (Elt F) := ⟨m, fun _ => 0, ρ⟩

/-! ## What each device computes -/

/-- The blocks of the three arrays that are staged on device `c`. -/
def xAt (c : Dev nD) : (cc0_stg0_0 : Ref sig .tc).ty.Contents (Elt F) :=
  (win0_0.blk (0 : Fin 1)).view.read (Elt F) ((s₀ m ρ).mem ((c : Thread nD τ).loc main_arg0))
def idxAt (c : Dev nD) : (cc0_stg1_0 : Ref sig .tc).ty.Contents (Elt F) :=
  (win0_1.blk (0 : Fin 1)).view.read (Elt F) ((s₀ m ρ).mem ((c : Thread nD τ).loc main_arg2))
def wAt (c : Dev nD) : (cc0_stg2_0 : Ref sig .tc).ty.Contents (Elt F) :=
  (win0_2.blk (0 : Fin 1)).view.read (Elt F) ((s₀ m ρ).mem ((c : Thread nD τ).loc main_arg3))

/-- The number of the device, as the kernel works it out. -/
def devWord (c : Dev nD) : BitVec 32 := Scalar.remsi (Scalar.divsi (Dev.word c) 1#32) 8#32

/-- The masked rows device `c` keeps in its first scratch buffer: eight blocks of 64 rows. -/
def masked (c : Dev nD) : (cc0_scratch0 : Ref sig .tc).ty.Contents (Elt F) := k0_pay2 (k0_pay1 (devWord c) (idxAt m ρ c) (xAt m ρ c))

/-- The two experts' weights of device `c`, one above the other. -/
def weights (c : Dev nD) : FVec F S512x512 .bf16 := k0_pay3 (wAt m ρ c)

/-- The block of masked rows transfer `o` is made from, and the block device `c` keeps. -/
abbrev sendRows (c : Dev nD) (o : Fin 7) : Vec F S1x64x512 .bf16 :=
  mM.view.readAt (Elt F) (Rect.unit (s := S8x64x512) (k0_off1 c (BitVec.ofNat 32 (1 + o.val))) S1x64x512.size (k0_off1_inb c o)).toLoadRect (masked m ρ c)
abbrev ownRows (c : Dev nD) : Vec F S1x64x512 .bf16 :=
  mM.view.readAt (Elt F) (Rect.unit (s := S8x64x512) (k0_off2 c) S1x64x512.size (k0_off2_inb c)).toLoadRect (masked m ρ c)

/-- What transfer `o` of device `c` carries: the product of its rows with the weights. -/
def parcel (c : Dev nD) (o : Fin 7) : Vec F S1x64x512 .bf16 := k0_pay9 (weights m ρ c) (sendRows m ρ c o)

/-- What device `c` receives in slot `o`. -/
abbrev arrival (c : Dev nD) (o : Fin 7) : Vec F S1x64x512 .bf16 := parcel m ρ (origin c o) o

/-- Device `c`'s result: its own product, and the seven arrivals added one after the other. -/
def outAt (c : Dev nD) : (cc0_stg3_0 : Ref sig .tc).ty.Contents (Elt F) :=
  k0_pay17 (k0_pay16 (k0_pay15 (k0_pay14 (k0_pay13 (weights m ρ c) (ownRows m ρ c)) (arrival m ρ c 0)) (arrival m ρ c 1) (arrival m ρ c 2))
    (arrival m ρ c 3) (arrival m ρ c 4)) (arrival m ρ c 5) (arrival m ρ c 6)

/-! ## The slots as resources -/

/-- Device `c` holds slot `o` of its send buffer, with contents `f`; -/
def sendPts (c : Dev nD) (o : Fin 7) (f : Buf (Elt F) ((c : Thread nD τ).loc cc0_scratch1)) : sProp 𝕄 :=
  (c : Thread nD τ).loc cc0_scratch1 ↦[slotI o]{fullShare} f
/-- of its receive buffer. -/
def recvPts (c : Dev nD) (o : Fin 7) (f : Buf (Elt F) ((c : Thread nD τ).loc cc0_scratch2)) : sProp 𝕄 :=
  (c : Thread nD τ).loc cc0_scratch2 ↦[slotI o]{fullShare} f

omit [FloatOps F] in
instance sendPts_storable (c : Dev nD) (o : Fin 7) (f) : BI.Storable (upEmb : UEmb _ 𝕄) (sendPts (F := F) c o f) := by unfold sendPts; infer_instance
omit [FloatOps F] in
instance recvPts_storable (c : Dev nD) (o : Fin 7) (f) : BI.Storable (upEmb : UEmb _ 𝕄) (recvPts (F := F) c o f) := by unfold recvPts; infer_instance

/-- Slot `o` of device `c`'s receive buffer, whatever it holds; its send slot likewise. -/
def freeSlot (c : Dev nD) (o : Fin 7) : sProp 𝕄 := iprop(∃ f, recvPts c o f)
def sentSlot (c : Dev nD) (o : Fin 7) : sProp 𝕄 := iprop(∃ f, sendPts c o f)
/-- Slot `o` of device `c`'s receive buffer, holding what `origin c o` sent. -/
def landedSlot (c : Dev nD) (o : Fin 7) : sProp 𝕄 := iprop(∃ f, ⌜rdR o f = arrival m ρ c o⌝ ∗ recvPts c o f)

omit [FloatOps F] in
instance freeSlot_storable (c : Dev nD) (o : Fin 7) : BI.Storable (upEmb : UEmb _ 𝕄) (freeSlot (F := F) c o) := by unfold freeSlot; infer_instance
omit [FloatOps F] in
instance sentSlot_storable (c : Dev nD) (o : Fin 7) : BI.Storable (upEmb : UEmb _ 𝕄) (sentSlot (F := F) c o) := by unfold sentSlot; infer_instance
instance landedSlot_storable (c : Dev nD) (o : Fin 7) : BI.Storable (upEmb : UEmb _ 𝕄) (landedSlot (F := F) m ρ c o) := by unfold landedSlot; infer_instance

/-! ## The schedule of the cells -/

/-- Every cell has one round. A barrier has seven duties of one unit, duty `o` paid by `peer c o`, who hands over slot
    `o` of its own receive buffer. A send cell and a receive cell have one duty, of a slot's credit: the first gives
    back the send slot, the second hands over the receive slot with what landed in it. -/
def Rd : Rounds.Schedule (GSem nD τ sig) (Fin 7) 𝕄 where
  duties g r := if r = 0 ∧ g.1.2 = .tc then (match cellAt g.2 with | some none => Finset.univ | some (some _) => {0} | none => ∅) else ∅
  unitless _ := False
  amount g _ _ := match cellAt g.2 with | some none => 1 | _ => N
  payload g _ d := match cellAt g.2 with
    | some none => freeSlot (peer g.1.1 d) d
    | some (some (false, o)) => sentSlot g.1.1 o
    | some (some (true, o)) => landedSlot m ρ g.1.1 o
    | none => iprop(emp)
  amount_pos g _ _ _ := by
    split
    · exact Nat.one_pos
    · exact N_pos

instance Rd_payload_storable (g : GSem nD τ sig) (r : ℕ) (d : Fin 7) :
    BI.Storable (upEmb : UEmb _ 𝕄) ((Rd (F := F) m ρ).payload g r d) := by
  dsimp only [Rd]
  split <;> infer_instance

section Tables
variable (c : Dev nD) (o d : Fin 7)

theorem duties_bar : (Rd (F := F) m ρ).duties (barCell c) 0 = Finset.univ := rfl
theorem duties_send : (Rd (F := F) m ρ).duties (sendCell c o) 0 = {0} := by
  dsimp only [Rd]; rw [if_pos ⟨rfl, rfl⟩, cellAt_send]
theorem duties_recv : (Rd (F := F) m ρ).duties (recvCell c o) 0 = {0} := by
  dsimp only [Rd]; rw [if_pos ⟨rfl, rfl⟩, cellAt_recv]
theorem duties_later (g : GSem nD τ sig) : ∀ r, 1 ≤ r → (Rd (F := F) m ρ).duties g r = ∅ :=
  fun r hr => by dsimp only [Rd]; exact if_neg fun h => by omega

theorem amount_bar : (Rd (F := F) m ρ).amount (barCell c) 0 d = 1 := rfl
theorem amount_send : (Rd (F := F) m ρ).amount (sendCell c o) 0 d = N := by dsimp only [Rd]; rw [cellAt_send]
theorem amount_recv : (Rd (F := F) m ρ).amount (recvCell c o) 0 d = N := by dsimp only [Rd]; rw [cellAt_recv]

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c o) 0 = N := by
  unfold Schedule.expect Schedule.amountOf; rw [duties_send, Finset.sum_singleton, amount_send]
theorem expect_recv : (Rd (F := F) m ρ).expect (recvCell c o) 0 = N := by
  unfold Schedule.expect Schedule.amountOf; rw [duties_recv, Finset.sum_singleton, amount_recv]

theorem payload_bar : (Rd (F := F) m ρ).payload (barCell c) 0 d = freeSlot (peer c d) d := rfl
theorem payload_send : (Rd (F := F) m ρ).payload (sendCell c o) 0 d = sentSlot c o := by dsimp only [Rd]; rw [cellAt_send]
theorem payload_recv : (Rd (F := F) m ρ).payload (recvCell c o) 0 d = landedSlot m ρ c o := by dsimp only [Rd]; rw [cellAt_recv]

/-- What a finished wait on each cell returns. -/
theorem rest_bar : bigSep ((Rd (F := F) m ρ).duties (barCell c) 0 \ ∅) (fun d => (Rd (F := F) m ρ).payload (barCell c) 0 d)
    = bigSep Finset.univ fun d : Fin 7 => freeSlot (peer c d) d := by
  rw [Finset.sdiff_empty, duties_bar]; rfl
theorem rest_send : bigSep ((Rd (F := F) m ρ).duties (sendCell c o) 0 \ ∅) (fun d => (Rd (F := F) m ρ).payload (sendCell c o) 0 d) = sentSlot c o := by
  rw [Finset.sdiff_empty, duties_send, bigSep_singleton, payload_send]
theorem rest_recv : bigSep ((Rd (F := F) m ρ).duties (recvCell c o) 0 \ ∅) (fun d => (Rd (F := F) m ρ).payload (recvCell c o) 0 d) = landedSlot m ρ c o := by
  rw [Finset.sdiff_empty, duties_recv, bigSep_singleton, payload_recv]

end Tables

/-! ## What a device owes, and the levels -/

/-- What device `c` still owes when it has sent the signals below `a` and the transfers below `b`. -/
def barOwe (c : Dev nD) (a : ℕ) : CellTallies nD τ sig Unit := ∑ k : Fin 7, if a ≤ k.val then tallyAt (barCell (peer c k)) () 1 else 0
def rcvOwe (c : Dev nD) (b : ℕ) : CellTallies nD τ sig Unit := ∑ k : Fin 7, if b ≤ k.val then tallyAt (recvCell (peer c k) k) () N else 0
def owe (c : Dev nD) (a b : ℕ) : CellTallies nD τ sig Unit := rcvOwe c b + barOwe c a

/-- A sum over the numbers from `k` on is the sum from `k + 1` on and the `k`-th summand. -/
theorem sum_from {A : Type} [AddCommMonoid A] (f : Fin 7 → A) (k : Fin 7) :
    (∑ j : Fin 7, if k.val ≤ j.val then f j else 0) = (∑ j : Fin 7, if k.val + 1 ≤ j.val then f j else 0) + f k := by
  have h : f k = ∑ j : Fin 7, if j = k then f j else 0 := by rw [Finset.sum_ite_eq' Finset.univ k f, if_pos (Finset.mem_univ k)]
  rw [h, ← Finset.sum_add_distrib]
  refine Finset.sum_congr rfl fun j _ => ?_
  rcases lt_trichotomy k.val j.val with h | h | h
  · rw [if_pos h.le, if_pos (by omega), if_neg (by rintro rfl; omega), add_zero]
  · rw [if_pos h.le, if_neg (by omega), if_pos (Fin.ext h.symm), zero_add]
  · rw [if_neg (by omega), if_neg (by omega), if_neg (by rintro rfl; omega), add_zero]

theorem sum_past {A : Type} [AddCommMonoid A] (f : Fin 7 → A) : (∑ j : Fin 7, if 7 ≤ j.val then f j else 0) = 0 :=
  Finset.sum_eq_zero fun j _ => if_neg (by omega)

/-- Sending signal `k` pays one barrier unit of `peer c k`; -/
theorem owe_signal (c : Dev nD) (k : Fin 7) (b : ℕ) : owe c k.val b = owe c (k.val + 1) b + tallyAt (barCell (peer c k)) () 1 := by
  unfold owe barOwe; rw [sum_from, add_assoc]
/-- sending transfer `k`, after all the signals, pays the receive cell of `peer c k`; -/
theorem owe_send (c : Dev nD) (k : Fin 7) : owe c 7 k.val = owe c 7 (k.val + 1) + tallyAt (recvCell (peer c k) k) () N := by
  unfold owe barOwe rcvOwe; rw [sum_from, sum_past, add_zero, add_zero]
/-- and then nothing is owed. -/
theorem owe_done (c : Dev nD) : owe c 7 7 = 0 := by
  unfold owe barOwe rcvOwe; rw [sum_past, sum_past, add_zero]

def L (g : GSem nD τ sig) : Finset Unit := if g.1.2 = .tc then {()} else ∅
/-- Barrier cells wait at level 1, receive cells at 2, all others at 0. -/
def lv (g : GSem nD τ sig) (_ : Unit) : ℕ := match cellAt g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (o : Fin 7) : lv (recvCell c o) () = 2 := by dsimp only [lv]; rw [cellAt_recv]

theorem sum_tally_pos {ι : Type} [Fintype ι] (p : ι → Prop) [DecidablePred p] (cell : ι → GSem nD τ sig) (n : ℕ) {g : GSem nD τ sig} {u : Unit}
    (h : 0 < (∑ k : ι, if p k then (tallyAt (cell k) () n : CellTallies nD τ sig Unit) else 0) g u) : ∃ k, p k ∧ g = cell k := by
  rw [Finset.sum_apply, Finsupp.finset_sum_apply] at h
  obtain ⟨k, -, hk⟩ := Finset.exists_ne_zero_of_sum_ne_zero h.ne'
  by_cases hp : p k
  · rw [if_pos hp, tallyAt_apply] at hk
    exact ⟨k, hp, by by_contra hn; exact hk (if_neg fun h' => hn h'.1)⟩
  · rw [if_neg hp] at hk; exact absurd rfl hk

/-- A device only ever owes barrier units and receive credits, and after its signals receive credits only. -/
theorem owe_pos {c : Dev nD} {a b : ℕ} {g : GSem nD τ sig} {u : Unit} (h : 0 < owe c a b g u) :
    (∃ k : Fin 7, g = recvCell (peer c k) k) ∨ (a < 7 ∧ ∃ k : Fin 7, g = barCell (peer c k)) := by
  unfold owe at h
  rw [Pi.add_apply, Finsupp.add_apply] at h
  rcases Nat.eq_zero_or_pos (rcvOwe c b g u) with h0 | h0
  · rw [h0, zero_add] at h
    obtain ⟨k, hk, e⟩ := sum_tally_pos _ _ _ h
    exact .inr ⟨by omega, k, e⟩
  · obtain ⟨k, -, e⟩ := sum_tally_pos _ _ _ h0
    exact .inl ⟨k, e⟩

theorem lv_owe {c : Dev nD} {a b : ℕ} {g : GSem nD τ sig} {u : Unit} (h : 0 < owe c a b g u) : 1 ≤ lv g () ∧ (a = 7 → 2 ≤ lv g ()) := by
  rcases owe_pos h with ⟨k, rfl⟩ | ⟨ha, k, rfl⟩
  · rw [lv_recv]; exact ⟨by decide, fun _ => le_rfl⟩
  · exact ⟨by rw [lv_bar], fun h => by omega⟩

theorem L_owe {c : Dev nD} {a b : ℕ} {g : GSem nD τ sig} {u : Unit} (h : 0 < owe c a b g u) : u ∈ L g := by
  rcases owe_pos h with ⟨k, rfl⟩ | ⟨ha, k, rfl⟩ <;> exact Finset.mem_singleton_self _

omit [FloatOps F] in
/-- A staging wait, at level 0, may block whatever the device owes; -/
theorem mayWait_stage (c : Dev nD) (q : DmaSem sig) (hq : lv ((c : Thread nD τ), .dma q) () = 0) (O : CellTallies nD τ sig Unit) (hO : O = owe c 0 0 ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => L_owe hg) (fun p hp => by rw [Finset.mem_singleton.mp hp]; exact hq.le) (fun g u hg => (lv_owe hg).1)
  · rw [MayWait_zero]; iintro -; iempintro

omit [FloatOps F] in
/-- the barrier wait may block when only receive credits are owed. -/
theorem mayWait_bar (c : Dev nD) : (levAts L lv : sProp 𝕄) ⊢ MayWait (c : Thread nD τ) (.reg barS) () (owe c 7 0) :=
  MayOwe.of_cut (L := L) (lev := lv) 1 (fun p hp => by rw [Finset.mem_singleton.mp hp, L_tc]; exact Finset.mem_singleton_self _)
    (fun g u hg => L_owe hg) (fun p hp => by rw [Finset.mem_singleton.mp hp]; exact (lv_bar c).le) (fun g u hg => (lv_owe hg).2 rfl)

end Cert.Exchange

end
-- ==== Proof.Steps.lean ====
/-
One lemma per kind of step of the kernel: a signal, the barrier wait, filling a send slot, a transfer, the
wait for an arrival and the wait for a sent slot — each for any transfer number `o`.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device may use again and again: the cells' invariants, and that their round is open -/

def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)

instance records_persistent (K : Dev nD × Cell → ℕ) : BI.Persistent (records m ρ K) := by unfold records; infer_instance

variable (K : Dev nD × Cell → ℕ)

theorem all_inv (ck : Dev nD × Cell) :
    (bigSep Finset.univ fun ck : Dev nD × Cell => (cellInv ER (Rd m ρ) (K ck) (kcell ck) : sProp 𝕄)) ⊢ cellInv ER (Rd m ρ) (K ck) (kcell ck) :=
  bigSep_elim (Finset.mem_univ ck)
omit [FloatOps F] in
theorem all_reached (ck : Dev nD × Cell) :
    (bigSep Finset.univ fun ck : Dev nD × Cell => (reached ER (kcell ck) 0 : sProp 𝕄)) ⊢ reached ER (kcell ck) 0 :=
  bigSep_elim (Finset.mem_univ ck)

theorem records_inv (ck : Dev nD × Cell) : records m ρ K ⊢ cellInv ER (Rd m ρ) (K ck) (kcell ck) := by
  unfold records
  iintro ⟨H, -⟩
  iapply (all_inv m ρ K ck); iexact H
theorem records_reached (ck : Dev nD × Cell) : records m ρ K ⊢ reached ER (kcell ck) 0 := by
  unfold records
  iintro ⟨-, H⟩
  iapply (all_reached (F := F) ck); iexact H

/-- Device `c` owes `O`, having waited on some cells already. -/
def owing (c : Dev nD) (O : CellTallies nD τ sig Unit) : sProp 𝕄 := iprop(∃ W : Waits sig Unit, owes (c : Thread nD τ) O W)

/-- Send slot `o` of device `c`, filled with its parcel. -/
def filledSlot (c : Dev nD) (o : Fin 7) : sProp 𝕄 := iprop(∃ f, ⌜rdS o f = parcel m ρ c o⌝ ∗ sendPts c o f)

section Steps
variable (c : Dev nD) (o : Fin 7)

/-- Signal `o` goes to `peer c o` and lends it slot `back o` of the receive buffer. -/
theorem step_signal {α : Type} {Q : α → sProp 𝕄} {k : PUnit → Prog (TpuEff nD τ sig (Elt F) Λ₀ .tc) α} (n : Dev nD) (hn : n = peer c o) :
    iprop(records m ρ K ∗ owing c (owe c o.val 0) ∗ dutyTok ER (barCell (peer c o)) 0 (back o) ∗ freeSlot c (back o))
      ⊢ iprop((owing c (owe c (o.val + 1) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32 : BitVec 32).toInt) k) Q) := by
  subst hn
  unfold owing
  iintro ⟨#HR, ⟨%W, HO⟩, Ht, Hs⟩ Hk
  iapply (Rounds.wp_signal 𝒱₀ ER (Rd m ρ) (c : Thread nD τ) none (dst := (peer c o : Thread nD τ)) (κ := K (peer c o, none))
      (d := back o) (by rw [duties_bar]; exact Finset.mem_univ _) ((amount_bar m ρ (peer c o) (back o)).trans (by decide)) ()
      (owe c (o.val + 1) 0) (owe_signal c o 0)) $$ [HO Ht Hs]
  · isplitr; · iapply (records_inv m ρ K (peer c o, none)); iexact HR
    isplitl [HO]; · iexact HO
    isplitl [Ht]; · iexact Ht
    isplitl [Hs]
    · rw [payload_bar, peer_back]; iexact Hs
    · iapply (records_reached m ρ K (peer c o, none)); iexact HR
  iintro HO
  iapply Hk; iexists W; iexact HO

/-- The barrier wait: all seven peers have lent the slot this device's transfers go to. -/
theorem step_barrier {α : Type} {Q : α → sProp 𝕄} {k : PUnit → Prog (TpuEff nD τ sig (Elt F) Λ₀ .tc) α} :
    iprop(records m ρ K ∗ cred (tallyAt (barCell c) () 7) ∗ owing c (owe c 7 0) ∗ levAts L lv ∗ atPos ER (barCell c) 0 ∅ 0)
      ⊢ iprop(((owing c (owe c 7 0) ∗ semVal (barCell c) 0 ∗ bigSep Finset.univ fun d : Fin 7 => freeSlot (peer c d) d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  unfold owing
  iintro ⟨#HR, Hc, ⟨%W, HO⟩, #Hlev, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owe c 7 0) (W := W) (R := 0) (m := 0) (T := ∅)
      (by rw [expect_bar]; decide)) $$ [Hc HO Hat]
  · isplitr; · iapply (records_inv m ρ K (c, none)); iexact HR
    isplitl [Hc]; · iexact Hc
    isplitl [HO]; · iexact HO
    isplitr; · iapply (mayWait_bar c); iexact Hlev
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iapply (records_inv m ρ K (c, none)); iexact HR
    iexact Hat
  iapply Hk
  isplitl [HO]; · iexists _; iexact HO
  isplitl [Hz]; · iexact Hz
  iapply (Entails.of_eq (rest_bar m ρ c)); iexact Hpay

/-- Transfer `o`: the filled send slot goes off to the lent slot of `peer c o`. -/
theorem step_send {α : Type} {Q : α → sProp 𝕄} {k : PUnit → Prog (TpuEff nD τ sig (Elt F) Λ₀ .tc) α} (n : Dev nD) (hn : n = peer c o) {hsc : (slotOf rM o).view.ref.isScScratch = false}
    {hsrc : (slotOf sM o).view.WordExact} {hdst : (slotOf rM o).view.WordExact}
    {hsem : DmaTarget.Typed .vmem (.dma (recvS o)) (.remote (Dev.tc n : Thread nD τ) (slotOf rM o) (.dma (sendS o)) hsc)} :
    iprop(records m ρ K ∗ filledSlot m ρ c o ∗ freeSlot (peer c o) o ∗ owing c (owe c 7 o.val)
        ∗ dutyTok ER (sendCell c o) 0 0 ∗ dutyTok ER (recvCell (peer c o) o) 0 0)
      ⊢ iprop(((cred (tallyAt (sendCell c o) () N) ∗ owing c (owe c 7 (o.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slotOf sM o) (.remote (Dev.tc n : Thread nD τ) (slotOf rM o) (.dma (sendS o)) hsc) (.dma (recvS o)) hsrc hdst hsem) k) Q) := by
  subst hn
  unfold owing filledSlot freeSlot
  iintro ⟨#HR, ⟨%fs, %hfs, Hs⟩, ⟨%fd, Hd⟩, ⟨%W, HO⟩, HtS, HtR⟩ Hk
  iapply (Rounds.wp_send_pointsTo 𝒱₀ ER (Rd m ρ) (c : Thread nD τ) none (κ₁ := K (c, some (false, o))) (κ₂ := K (peer c o, some (true, o)))
    (r₁ := 0) (r₂ := 0) (d₁ := 0) (d₂ := 0) (fs := fs) (fd := fd) (q := fullShare)
    (by rw [duties_send]; exact Finset.mem_singleton_self _) (by rw [duties_recv]; exact Finset.mem_singleton_self _)
    () () N (show (slotOf rM o).view.amount (.dma (recvS o)) = N from credit_slot o) (amount_send m ρ c o 0) (amount_recv m ρ (peer c o) o 0) (owe c 7 (o.val + 1)) (owe_send c o) (W := W)
    (by rw [payload_send, send_set]; unfold sentSlot sendPts; iintro H; iexists fs; iexact H)
    (by
      rw [payload_recv, recv_set]; unfold landedSlot recvPts
      iintro H
      iexists ((slotOf rM o).view.write (Elt F) fd ((slotOf sM o).view.read (Elt F) fs) Finset.univ)
      isplitr
      · ipureintro; rw [rdR_landed, hfs]; unfold arrival; rw [origin_peer]
      · iexact H)) $$ [Hs Hd HO HtS HtR]
  · isplitr; · iapply (records_inv m ρ K (c, some (false, o))); iexact HR
    isplitr; · iapply (records_inv m ρ K (peer c o, some (true, o))); iexact HR
    isplitl [Hs]; · rw [send_set]; unfold sendPts; iexact Hs
    isplitl [Hd]; · rw [recv_set]; unfold recvPts; iexact Hd
    isplitl [HO]; · iexact HO
    isplitl [HtS]; · iexact HtS
    isplitr; · iapply (records_reached m ρ K (c, some (false, o))); iexact HR
    isplitl [HtR]; · iexact HtR
    iapply (records_reached m ρ K (peer c o, some (true, o))); iexact HR
  iintro ⟨Hc, HO⟩
  iapply Hk
  isplitl [Hc]; · iexact Hc
  iexists W; iexact HO

/-- The wait for arrival `o`: the receive slot comes with what `origin c o` sent. -/
theorem step_arrival {α : Type} {Q : α → sProp 𝕄} {k : PUnit → Prog (TpuEff nD τ sig (Elt F) Λ₀ .tc) α} {hsrc : (slotOf sM o).view.WordExact} {hdst : (slotOf rM o).view.WordExact} :
    iprop(records m ρ K ∗ cred (tallyAt (recvCell c o) () N) ∗ owing c 0 ∗ atPos ER (recvCell c o) 0 ∅ 0)
      ⊢ iprop(((owing c 0 ∗ semVal (recvCell c o) 0 ∗ landedSlot m ρ c o)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (recvS o) (slotOf sM o) (slotOf rM o) hsrc hdst) k) Q) := by
  unfold owing
  iintro ⟨#HR, Hc, ⟨%W, HO⟩, Hat⟩ Hk
  iapply (Rounds.wp_wait_rest_token 𝒱₀ ER (Rd m ρ) (c : Thread nD τ) none (κ := K (c, some (true, o)))
      (wpE_waitDma2_eq 𝒱₀ (c : Thread nD τ) none Set.univ) (Set.mem_univ _) () (O := 0) (W := W) (R := 0) (m := 0) (T := ∅)
      (by rw [Nat.zero_add, expect_recv, credit_slot])) $$ [Hc HO Hat]
  · isplitr; · iapply (records_inv m ρ K (c, some (true, o))); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, some (true, o)))) (fun h => h) (R := 0 + 1) (duties_later m ρ (recvCell c o))) $$ [Hat] with Hz
  · isplitr; · iapply (records_inv m ρ K (c, some (true, o))); iexact HR
    iexact Hat
  iapply Hk
  isplitl [HO]; · iexists _; iexact HO
  isplitl [Hz]; · iexact Hz
  iapply (Entails.of_eq (rest_recv m ρ c o)); iexact Hpay

/-- The wait for sent slot `o`: the send slot comes back. -/
theorem step_sent {α : Type} {Q : α → sProp 𝕄} {k : PUnit → Prog (TpuEff nD τ sig (Elt F) Λ₀ .tc) α} {hsrc : (slotOf rM o).view.WordExact} {hdst : (slotOf sM o).view.WordExact} :
    iprop(records m ρ K ∗ cred (tallyAt (sendCell c o) () N) ∗ owing c 0 ∗ atPos ER (sendCell c o) 0 ∅ 0)
      ⊢ iprop(((owing c 0 ∗ semVal (sendCell c o) 0 ∗ sentSlot c o)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (sendS o) (slotOf rM o) (slotOf sM o) hsrc hdst) k) Q) := by
  unfold owing
  iintro ⟨#HR, Hc, ⟨%W, HO⟩, Hat⟩ Hk
  iapply (Rounds.wp_wait_rest_token 𝒱₀ ER (Rd m ρ) (c : Thread nD τ) none (κ := K (c, some (false, o)))
      (wpE_waitDma2_eq 𝒱₀ (c : Thread nD τ) none Set.univ) (Set.mem_univ _) () (O := 0) (W := W) (R := 0) (m := 0) (T := ∅)
      (by rw [Nat.zero_add, expect_send, credit_slot'])) $$ [Hc HO Hat]
  · isplitr; · iapply (records_inv m ρ K (c, some (false, o))); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, some (false, o)))) (fun h => h) (R := 0 + 1) (duties_later m ρ (sendCell c o))) $$ [Hat] with Hz
  · isplitr; · iapply (records_inv m ρ K (c, some (false, o))); iexact HR
    iexact Hat
  iapply Hk
  isplitl [HO]; · iexists _; iexact HO
  isplitl [Hz]; · iexact Hz
  iapply (Entails.of_eq (rest_send m ρ c o)); iexact Hpay

/-- Reading a send slot before it is written: any value, nothing changes. -/
theorem step_peek {α : Type} {Q : α → sProp 𝕄} {hl : (sM.view : View sig .tc _ _ _).LoadsAt (slotR o).toLoadRect} {k : Vec F S1x64x512 .bf16 → Prog (TpuEff nD τ sig (Elt F) Λ₀ .tc) α} :
    sentSlot c o ⊢ iprop((∀ v, sentSlot c o -∗ wp frame (wpE (defs₀ (F := F)) 𝒱₀ (c : Thread nD τ) none) Set.univ (k v) Q)
        -∗ wp frame (wpE (defs₀ (F := F)) 𝒱₀ (c : Thread nD τ) none) Set.univ (.op (.load sM (slotR o).toLoadRect hl) k) Q) := by
  unfold sentSlot sendPts
  iintro ⟨%f, Hs⟩ Hk
  iapply (wp_load_rect 𝒱₀ (c : Thread nD τ) none Set.univ (m := sM) (r := slotR o) (S := slotI o) (f := f) (by rw [send_access])) $$ Hs
  iintro Hs
  iapply Hk
  iexists f; iexact Hs

/-- Filling send slot `o` with the parcel. -/
theorem step_fill {α : Type} {Q : α → sProp 𝕄} {k : PUnit → Prog (TpuEff nD τ sig (Elt F) Λ₀ .tc) α} {w : Vec F S1x64x512 .bf16} (hw : w = parcel m ρ c o) {hx : (sM.access (slotR o)).Stores Finset.univ}
    {hm : (Finset.univ : Finset (slotR o).shape.Idx) = Finset.univ ∨ ∀ a, (slotR o).stride a = 1} :
    sentSlot c o ⊢ iprop((filledSlot m ρ c o -∗ wp frame (wpE (defs₀ (F := F)) 𝒱₀ (c : Thread nD τ) none) Set.univ (k ⟨⟩) Q)
        -∗ wp frame (wpE (defs₀ (F := F)) 𝒱₀ (c : Thread nD τ) none) Set.univ (.op (.store sM (slotR o) w Finset.univ hx hm) k) Q) := by
  subst hw
  unfold sentSlot filledSlot sendPts
  iintro ⟨%f, Hs⟩ Hk
  iapply (wp_store 𝒱₀ (c : Thread nD τ) none Set.univ (m := sM) (r := slotR o) (Mk := Finset.univ) (S := slotI o) (f := f)
    (by rw [← send_access]; exact subset_rfl)) $$ Hs
  iintro Hs
  iapply Hk
  iexists _
  isplitr; · ipureintro; exact rdS_write o f (parcel m ρ c o)
  iexact Hs

/-- Reading arrival `o`. -/
theorem step_read {α : Type} {Q : α → sProp 𝕄} {hl : (rM.view : View sig .tc _ _ _).LoadsAt (slotR o).toLoadRect} {k : Vec F S1x64x512 .bf16 → Prog (TpuEff nD τ sig (Elt F) Λ₀ .tc) α} :
    landedSlot m ρ c o ⊢ iprop((landedSlot m ρ c o -∗ wp frame (wpE (defs₀ (F := F)) 𝒱₀ (c : Thread nD τ) none) Set.univ (k (arrival m ρ c o)) Q)
        -∗ wp frame (wpE (defs₀ (F := F)) 𝒱₀ (c : Thread nD τ) none) Set.univ (.op (.load rM (slotR o).toLoadRect hl) k) Q) := by
  unfold landedSlot recvPts
  iintro ⟨%f, %hf, Hs⟩ Hk
  rw [← hf]
  iapply (wp_load_rect 𝒱₀ (c : Thread nD τ) none Set.univ (m := rM) (r := slotR o) (S := slotI o) (f := f) (by rw [recv_access])) $$ Hs
  iintro Hs
  iapply Hk
  iexists f
  isplitr; · ipureintro; rfl
  iexact Hs

end Steps

end Cert.Exchange

end
-- ==== Proof.Buffers.lean ====
/-
The kernel's loads and stores of the buffers that are not cut into slots: the staged blocks, the masked rows and
the result. One lemma each, saying what the load returns or what the buffer then holds.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The whole-buffer steps -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem zero2 : (![0, 0] : Fin 2 → Nat) = fun _ => 0 := funext fun a => by fin_cases a <;> rfl
theorem zero3 : (![0, 0, 0] : Fin 3 → Nat) = fun _ => 0 := funext fun a => by fin_cases a <;> rfl

/-- The first scratch buffer with the masked rows in it. -/
def maskedBuf (c : Dev nD) : sProp 𝕄 := (c : Thread nD τ).loc cc0_scratch0 ↦{fullShare} masked m ρ c
def anyBuf (c : Dev nD) : sProp 𝕄 := iprop(∃ f : Buf (Elt F) ((c : Thread nD τ).loc cc0_scratch0), (c : Thread nD τ).loc cc0_scratch0 ↦{fullShare} f)

section Whole
variable (c : Dev nD)

theorem step_load_x {α : Type} {Q : α → sProp 𝕄} {hl : (xM.view : View sig .tc _ _ _).LoadsAt (Rect.unit (s := S512x256) ![0, 0] S512x256.size inb_S512x256_S512x256_0_0).toLoadRect}
    {k : Vec F S512x256 .bf16 → Prog (TpuEff nD τ sig (Elt F) Λ₀ .tc) α} :
    stg c cc0_stg0_0 (xAt m ρ c) ⊢ iprop((stg c cc0_stg0_0 (xAt m ρ c) -∗ wp frame (wpE (defs₀ (F := F)) 𝒱₀ (c : Thread nD τ) none) Set.univ (k (xAt m ρ c)) Q)
        -∗ wp frame (wpE (defs₀ (F := F)) 𝒱₀ (c : Thread nD τ) none) Set.univ
          (.op (.load xM (Rect.unit (s := S512x256) ![0, 0] S512x256.size inb_S512x256_S512x256_0_0).toLoadRect hl) k) Q) := by
  iintro ⟨%f, %hf, H⟩ Hk
  subst hf
  iapply (wp_load 𝒱₀ (c : Thread nD τ) none Set.univ (m := xM) (Finset.subset_univ _)) $$ H
  iintro H
  rw [show xM.view.readAt (Elt F) (Rect.unit (s := S512x256) ![0, 0] S512x256.size inb_S512x256_S512x256_0_0).toLoadRect (xAt m ρ c) = xAt m ρ c
    from Memref.readAt_unit_zero (Elt F) cc0_stg0_0 zero2 _ _]
  iapply Hk
  iexists _; isplitr; · (ipureintro; rfl)
  iexact H

theorem step_load_idx {α : Type} {Q : α → sProp 𝕄} {hl : (iM.view : View sig .tc _ _ _).LoadsAt (Rect.unit (s := S512x1) ![0, 0] S512x1.size inb_S512x1_S512x1_0_0).toLoadRect}
    {k : Vec F S512x1 .i32 → Prog (TpuEff nD τ sig (Elt F) Λ₀ .tc) α} :
    stg c cc0_stg1_0 (idxAt m ρ c) ⊢ iprop((stg c cc0_stg1_0 (idxAt m ρ c) -∗ wp frame (wpE (defs₀ (F := F)) 𝒱₀ (c : Thread nD τ) none) Set.univ (k (idxAt m ρ c)) Q)
        -∗ wp frame (wpE (defs₀ (F := F)) 𝒱₀ (c : Thread nD τ) none) Set.univ
          (.op (.load iM (Rect.unit (s := S512x1) ![0, 0] S512x1.size inb_S512x1_S512x1_0_0).toLoadRect hl) k) Q) := by
  iintro ⟨%f, %hf, H⟩ Hk
  subst hf
  iapply (wp_load 𝒱₀ (c : Thread nD τ) none Set.univ (m := iM) (Finset.subset_univ _)) $$ H
  iintro H
  rw [show iM.view.readAt (Elt F) (Rect.unit (s := S512x1) ![0, 0] S512x1.size inb_S512x1_S512x1_0_0).toLoadRect (idxAt m ρ c) = idxAt m ρ c
    from Memref.readAt_unit_zero (Elt F) cc0_stg1_0 zero2 _ _]
  iapply Hk
  iexists _; isplitr; · (ipureintro; rfl)
  iexact H

theorem step_load_w {α : Type} {Q : α → sProp 𝕄} {hl : (wM.view : View sig .tc _ _ _).LoadsAt (Rect.unit (s := S2x256x512) ![0, 0, 0] S2x256x512.size inb_S2x256x512_S2x256x512_0_0_0).toLoadRect}
    {k : Vec F S2x256x512 .bf16 → Prog (TpuEff nD τ sig (Elt F) Λ₀ .tc) α} :
    stg c cc0_stg2_0 (wAt m ρ c) ⊢ iprop((stg c cc0_stg2_0 (wAt m ρ c) -∗ wp frame (wpE (defs₀ (F := F)) 𝒱₀ (c : Thread nD τ) none) Set.univ (k (wAt m ρ c)) Q)
        -∗ wp frame (wpE (defs₀ (F := F)) 𝒱₀ (c : Thread nD τ) none) Set.univ
          (.op (.load wM (Rect.unit (s := S2x256x512) ![0, 0, 0] S2x256x512.size inb_S2x256x512_S2x256x512_0_0_0).toLoadRect hl) k) Q) := by
  iintro ⟨%f, %hf, H⟩ Hk
  subst hf
  iapply (wp_load 𝒱₀ (c : Thread nD τ) none Set.univ (m := wM) (Finset.subset_univ _)) $$ H
  iintro H
  rw [show wM.view.readAt (Elt F) (Rect.unit (s := S2x256x512) ![0, 0, 0] S2x256x512.size inb_S2x256x512_S2x256x512_0_0_0).toLoadRect (wAt m ρ c) = wAt m ρ c
    from Memref.readAt_unit_zero (Elt F) cc0_stg2_0 zero3 _ _]
  iapply Hk
  iexists _; isplitr; · (ipureintro; rfl)
  iexact H

/-- Reading the scratch buffer before it is written, and writing the masked rows to it. -/
theorem step_peek_m {α : Type} {Q : α → sProp 𝕄} {hl : (mM.view : View sig .tc _ _ _).LoadsAt (Rect.unit (s := S8x64x512) ![0, 0, 0] S8x64x512.size inb_S8x64x512_S8x64x512_0_0_0).toLoadRect}
    {k : Vec F S8x64x512 .bf16 → Prog (TpuEff nD τ sig (Elt F) Λ₀ .tc) α} :
    anyBuf c ⊢ iprop((∀ v, anyBuf c -∗ wp frame (wpE (defs₀ (F := F)) 𝒱₀ (c : Thread nD τ) none) Set.univ (k v) Q)
        -∗ wp frame (wpE (defs₀ (F := F)) 𝒱₀ (c : Thread nD τ) none) Set.univ
          (.op (.load mM (Rect.unit (s := S8x64x512) ![0, 0, 0] S8x64x512.size inb_S8x64x512_S8x64x512_0_0_0).toLoadRect hl) k) Q) := by
  unfold anyBuf
  iintro ⟨%f, H⟩ Hk
  iapply (wp_load 𝒱₀ (c : Thread nD τ) none Set.univ (m := mM) (Finset.subset_univ _)) $$ H
  iintro H
  iapply Hk
  iexists f; iexact H

theorem step_mask {α : Type} {Q : α → sProp 𝕄} {k : PUnit → Prog (TpuEff nD τ sig (Elt F) Λ₀ .tc) α} {w : Vec F S8x64x512 .bf16} (hw : w = masked m ρ c)
    {hx : (mM.access (Rect.unit (s := S8x64x512) ![0, 0, 0] S8x64x512.size inb_S8x64x512_S8x64x512_0_0_0)).Stores Finset.univ}
    {hm : (Finset.univ : Finset (Rect.unit (s := S8x64x512) ![0, 0, 0] S8x64x512.size inb_S8x64x512_S8x64x512_0_0_0).shape.Idx) = Finset.univ
      ∨ ∀ a, (Rect.unit (s := S8x64x512) ![0, 0, 0] S8x64x512.size inb_S8x64x512_S8x64x512_0_0_0).stride a = 1} :
    anyBuf c ⊢ iprop((maskedBuf m ρ c -∗ wp frame (wpE (defs₀ (F := F)) 𝒱₀ (c : Thread nD τ) none) Set.univ (k ⟨⟩) Q)
        -∗ wp frame (wpE (defs₀ (F := F)) 𝒱₀ (c : Thread nD τ) none) Set.univ
          (.op (.store mM (Rect.unit (s := S8x64x512) ![0, 0, 0] S8x64x512.size inb_S8x64x512_S8x64x512_0_0_0) w Finset.univ hx hm) k) Q) := by
  subst hw
  unfold anyBuf maskedBuf
  iintro ⟨%f, H⟩ Hk
  iapply (wp_store 𝒱₀ (c : Thread nD τ) none Set.univ (m := mM) (r := Rect.unit (s := S8x64x512) ![0, 0, 0] S8x64x512.size inb_S8x64x512_S8x64x512_0_0_0)
    (Mk := Finset.univ) (Finset.subset_univ _)) $$ H
  iintro H
  iapply Hk
  rw [show (mM.access (Rect.unit (s := S8x64x512) ![0, 0, 0] S8x64x512.size inb_S8x64x512_S8x64x512_0_0_0) : View sig .tc _ _ _).write (Elt F) f (masked m ρ c) Finset.univ = masked m ρ c
    from Memref.write_access_unit_zero_univ (Elt F) cc0_scratch0 zero3 _ f _]
  iexact H

/-- Reading the rows of transfer `o`, and the rows the device keeps. -/
theorem step_rows (o : Fin 7) {α : Type} {Q : α → sProp 𝕄}
    {hl : (mM.view : View sig .tc _ _ _).LoadsAt (Rect.unit (s := S8x64x512) (k0_off1 c (BitVec.ofNat 32 (1 + o.val))) S1x64x512.size (k0_off1_inb c o)).toLoadRect}
    {k : Vec F S1x64x512 .bf16 → Prog (TpuEff nD τ sig (Elt F) Λ₀ .tc) α} :
    maskedBuf m ρ c ⊢ iprop((maskedBuf m ρ c -∗ wp frame (wpE (defs₀ (F := F)) 𝒱₀ (c : Thread nD τ) none) Set.univ (k (sendRows m ρ c o)) Q)
        -∗ wp frame (wpE (defs₀ (F := F)) 𝒱₀ (c : Thread nD τ) none) Set.univ
          (.op (.load mM (Rect.unit (s := S8x64x512) (k0_off1 c (BitVec.ofNat 32 (1 + o.val))) S1x64x512.size (k0_off1_inb c o)).toLoadRect hl) k) Q) :=
  wp_load 𝒱₀ (c : Thread nD τ) none Set.univ (m := mM) (Finset.subset_univ _)

theorem step_own_rows {α : Type} {Q : α → sProp 𝕄}
    {hl : (mM.view : View sig .tc _ _ _).LoadsAt (Rect.unit (s := S8x64x512) (k0_off2 c) S1x64x512.size (k0_off2_inb c)).toLoadRect}
    {k : Vec F S1x64x512 .bf16 → Prog (TpuEff nD τ sig (Elt F) Λ₀ .tc) α} :
    maskedBuf m ρ c ⊢ iprop((maskedBuf m ρ c -∗ wp frame (wpE (defs₀ (F := F)) 𝒱₀ (c : Thread nD τ) none) Set.univ (k (ownRows m ρ c)) Q)
        -∗ wp frame (wpE (defs₀ (F := F)) 𝒱₀ (c : Thread nD τ) none) Set.univ
          (.op (.load mM (Rect.unit (s := S8x64x512) (k0_off2 c) S1x64x512.size (k0_off2_inb c)).toLoadRect hl) k) Q) :=
  wp_load 𝒱₀ (c : Thread nD τ) none Set.univ (m := mM) (Finset.subset_univ _)

/-- The result's staging buffer, holding anything. -/
def anyOut (c : Dev nD) : sProp 𝕄 := iprop(∃ f : Buf (Elt F) ((c : Thread nD τ).loc cc0_stg3_0), (c : Thread nD τ).loc cc0_stg3_0 ↦{fullShare} f)

theorem step_peek_out {α : Type} {Q : α → sProp 𝕄} {hl : (oM.view : View sig .tc _ _ _).LoadsAt (Rect.unit (s := S64x512) ![0, 0] S64x512.size inb_S64x512_S64x512_0_0).toLoadRect}
    {k : Vec F S64x512 .f32 → Prog (TpuEff nD τ sig (Elt F) Λ₀ .tc) α} :
    anyOut c ⊢ iprop((∀ v, anyOut c -∗ wp frame (wpE (defs₀ (F := F)) 𝒱₀ (c : Thread nD τ) none) Set.univ (k v) Q)
        -∗ wp frame (wpE (defs₀ (F := F)) 𝒱₀ (c : Thread nD τ) none) Set.univ
          (.op (.load oM (Rect.unit (s := S64x512) ![0, 0] S64x512.size inb_S64x512_S64x512_0_0).toLoadRect hl) k) Q) := by
  unfold anyOut
  iintro ⟨%f, H⟩ Hk
  iapply (wp_load 𝒱₀ (c : Thread nD τ) none Set.univ (m := oM) (Finset.subset_univ _)) $$ H
  iintro H
  iapply Hk
  iexists f; iexact H

theorem step_out {α : Type} {Q : α → sProp 𝕄} {k : PUnit → Prog (TpuEff nD τ sig (Elt F) Λ₀ .tc) α} {w : Vec F S64x512 .f32} (hw : w = outAt m ρ c)
    {hx : (oM.access (Rect.unit (s := S64x512) ![0, 0] S64x512.size inb_S64x512_S64x512_0_0)).Stores Finset.univ}
    {hm : (Finset.univ : Finset (Rect.unit (s := S64x512) ![0, 0] S64x512.size inb_S64x512_S64x512_0_0).shape.Idx) = Finset.univ
      ∨ ∀ a, (Rect.unit (s := S64x512) ![0, 0] S64x512.size inb_S64x512_S64x512_0_0).stride a = 1} :
    anyOut c ⊢ iprop((stg c cc0_stg3_0 (outAt m ρ c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S64x512) ![0, 0] S64x512.size inb_S64x512_S64x512_0_0) w Finset.univ hx hm) k) Q) := by
  subst hw
  unfold anyOut
  iintro ⟨%f, H⟩ Hk
  iapply (wp_store 𝒱₀ (c : Thread nD τ) none Set.univ (m := oM) (r := Rect.unit (s := S64x512) ![0, 0] S64x512.size inb_S64x512_S64x512_0_0)
    (Mk := Finset.univ) (Finset.subset_univ _)) $$ H
  iintro H
  iapply Hk
  iexists ((oM.access (Rect.unit (s := S64x512) ![0, 0] S64x512.size inb_S64x512_S64x512_0_0) : View sig .tc _ _ _).write (Elt F) f (outAt m ρ c) Finset.univ); isplitr
  · ipureintro; exact Memref.write_access_unit_zero_univ (Elt F) cc0_stg3_0 zero2 _ f _
  iexact H

end Whole

end Cert.Exchange

end
-- ==== Proof.Body.lean ====
/-
The kernel on one device, run from what the launch deals it: seven signals, the masked rows, the seven parcels,
the barrier wait, seven transfers, seven arrivals added up, seven sent slots back, and the result stored.
-/
module

public import proofs.«01_k».proof.Proof.Buffers

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the device starts from and ends with -/

/-- The device's places in its fifteen cells and the rights to pay: the barrier of each peer, its own send cells, the
    peers' receive cells. -/
def linear (c : Dev nD) : sProp 𝕄 :=
  iprop(atPos ER (barCell c) 0 ∅ 0 ∗ (bigSep Finset.univ fun o : Fin 7 => atPos ER (sendCell c o) 0 ∅ 0)
    ∗ (bigSep Finset.univ fun o : Fin 7 => atPos ER (recvCell c o) 0 ∅ 0)
    ∗ (bigSep Finset.univ fun o : Fin 7 => dutyTok ER (barCell (peer c o)) 0 (back o))
    ∗ (bigSep Finset.univ fun o : Fin 7 => dutyTok ER (sendCell c o) 0 0)
    ∗ (bigSep Finset.univ fun o : Fin 7 => dutyTok ER (recvCell (peer c o) o) 0 0))

/-- The units the peers will send: seven on the barrier, a slot's credit on each receive cell. -/
def credits (c : Dev nD) : sProp 𝕄 :=
  iprop(cred (tallyAt (barCell c) () 7) ∗ bigSep Finset.univ fun o : Fin 7 => cred (tallyAt (recvCell c o) () N))

def start (c : Dev nD) : sProp 𝕄 := iprop((∃ K, records m ρ K ∗ linear c) ∗ credits c ∗ levAts L lv)

/-- The three scratch buffers, holding anything. -/
def scratch (c : Dev nD) : sProp 𝕄 :=
  iprop(anyBuf c ∗ (bigSep Finset.univ fun o : Fin 7 => sentSlot c o) ∗ bigSep Finset.univ fun o : Fin 7 => freeSlot c o)

/-- All fifteen counters at zero. -/
def zeros (c : Dev nD) : sProp 𝕄 :=
  iprop(semVal (barCell c) 0 ∗ (bigSep Finset.univ fun o : Fin 7 => semVal (sendCell c o) 0) ∗ bigSep Finset.univ fun o : Fin 7 => semVal (recvCell c o) 0)

def Φ₀ (c : Dev nD) : sProp 𝕄 := iprop(start m ρ c ∗ scratch c)
def Φ₁ (c : Dev nD) : sProp 𝕄 := iprop(scratch c ∗ zeros c)

/-- The pipeline's data on device `c`: the four arrays, what each staging buffer holds after the point, what the device
    owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => idxAt m ρ c
    | ⟨2, _⟩ => wAt m ρ c
    | ⟨3, _⟩ => outAt m ρ c
  Φ t := match t with
    | ⟨0, _⟩ => Φ₀ m ρ c
    | ⟨_ + 1, _⟩ => Φ₁ c
  q _ := fullShare
  owed t := match t with
    | ⟨0, _⟩ => owe c 0 0
    | ⟨_ + 1, _⟩ => 0

theorem one_point : cfg0.N = 1 := by decide
def t₀ : Fin cfg0.N := ⟨0, by rw [one_point]; decide⟩
theorem only_point (t : Fin cfg0.N) : t = t₀ := by
  obtain ⟨t, ht⟩ := t; have := one_point; exact Fin.ext (by simp only [t₀]; omega)

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem dev1 (c : Dev nD) : (⟨k0_dev1 c, k0_dev1_lt c⟩ : Dev nD) = peer c 0 := Fin.ext (k0_dev1_eq c)

theorem dev2 (c : Dev nD) : (⟨k0_dev2 c, k0_dev2_lt c⟩ : Dev nD) = peer c 1 := Fin.ext (k0_dev2_eq c)
theorem dev3 (c : Dev nD) : (⟨k0_dev3 c, k0_dev3_lt c⟩ : Dev nD) = peer c 2 := Fin.ext (k0_dev3_eq c)
theorem dev4 (c : Dev nD) : (⟨k0_dev4 c, k0_dev4_lt c⟩ : Dev nD) = peer c 3 := Fin.ext (k0_dev4_eq c)
theorem dev5 (c : Dev nD) : (⟨k0_dev5 c, k0_dev5_lt c⟩ : Dev nD) = peer c 4 := Fin.ext (k0_dev5_eq c)
theorem dev6 (c : Dev nD) : (⟨k0_dev6 c, k0_dev6_lt c⟩ : Dev nD) = peer c 5 := Fin.ext (k0_dev6_eq c)
theorem dev7 (c : Dev nD) : (⟨k0_dev7 c, k0_dev7_lt c⟩ : Dev nD) = peer c 6 := Fin.ext (k0_dev7_eq c)
theorem dev8 (c : Dev nD) : (⟨k0_dev8 c, k0_dev8_lt c⟩ : Dev nD) = peer c 0 := Fin.ext (k0_dev8_eq c)
theorem dev9 (c : Dev nD) : (⟨k0_dev9 c, k0_dev9_lt c⟩ : Dev nD) = peer c 1 := Fin.ext (k0_dev9_eq c)
theorem dev10 (c : Dev nD) : (⟨k0_dev10 c, k0_dev10_lt c⟩ : Dev nD) = peer c 2 := Fin.ext (k0_dev10_eq c)
theorem dev11 (c : Dev nD) : (⟨k0_dev11 c, k0_dev11_lt c⟩ : Dev nD) = peer c 3 := Fin.ext (k0_dev11_eq c)
theorem dev12 (c : Dev nD) : (⟨k0_dev12 c, k0_dev12_lt c⟩ : Dev nD) = peer c 4 := Fin.ext (k0_dev12_eq c)
theorem dev13 (c : Dev nD) : (⟨k0_dev13 c, k0_dev13_lt c⟩ : Dev nD) = peer c 5 := Fin.ext (k0_dev13_eq c)
theorem dev14 (c : Dev nD) : (⟨k0_dev14 c, k0_dev14_lt c⟩ : Dev nD) = peer c 6 := Fin.ext (k0_dev14_eq c)

theorem masked_any (c : Dev nD) : maskedBuf m ρ c ⊢ anyBuf c := by
  unfold maskedBuf anyBuf; iintro H; iexists _; iexact H
theorem landed_free (c : Dev nD) (o : Fin 7) : landedSlot m ρ c o ⊢ freeSlot c o := by
  unfold landedSlot freeSlot; iintro ⟨%f, -, H⟩; iexists f; iexact H

/-! ## The run -/

section Body
variable (K : Dev nD × Cell → ℕ) (c : Dev nD)

def bodyPre : sProp 𝕄 :=
  iprop(records m ρ K ∗ linear c ∗ credits c ∗ levAts L lv ∗ scratch c ∗ owing c (owe c 0 0)
    ∗ stg c cc0_stg0_0 (xAt m ρ c) ∗ stg c cc0_stg1_0 (idxAt m ρ c) ∗ stg c cc0_stg2_0 (wAt m ρ c) ∗ anyOut c)

def bodyPost : sProp 𝕄 :=
  iprop(scratch c ∗ zeros c ∗ owing c 0
    ∗ stg c cc0_stg0_0 (xAt m ρ c) ∗ stg c cc0_stg1_0 (idxAt m ρ c) ∗ stg c cc0_stg2_0 (wAt m ρ c) ∗ stg c cc0_stg3_0 (outAt m ρ c))

set_option maxHeartbeats 4000000 in
set_option maxRecDepth 65536 in
/-- From `bodyPre` the kernel runs to its end in `bodyPost`, one step per effect in the order of the program. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) iM (Memref.isWhole_whole _) wM (Memref.isWhole_whole _) oM (Memref.isWhole_whole _)
            mM (Memref.isWhole_whole _) sM (Memref.isWhole_whole _) rM (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre bodyPost linear credits scratch zeros
  simp only [bigSep_seven]
  iintro ⟨⟨#HR, ⟨HatB, ⟨HatS0, HatS1, HatS2, HatS3, HatS4, HatS5, HatS6⟩, ⟨HatV0, HatV1, HatV2, HatV3, HatV4, HatV5, HatV6⟩, ⟨HtB0, HtB1, HtB2, HtB3, HtB4, HtB5, HtB6⟩, ⟨HtS0, HtS1, HtS2, HtS3, HtS4, HtS5, HtS6⟩, ⟨HtV0, HtV1, HtV2, HtV3, HtV4, HtV5, HtV6⟩⟩, ⟨HcB, ⟨HcV0, HcV1, HcV2, HcV3, HcV4, HcV5, HcV6⟩⟩, #Hlev, ⟨Hm, ⟨Hs0, Hs1, Hs2, Hs3, Hs4, Hs5, Hs6⟩, ⟨Hf0, Hf1, Hf2, Hf3, Hf4, Hf5, Hf6⟩⟩, HO, Hx, Hi, Hw, Hout⟩, Hk⟩
  -- signal 0
  iapply (step_signal m ρ K c 0 _ (dev1 c)) $$ [HO HtB0 Hf6]
  · isplitr; · iexact HR
    isplitl [HO]; · iexact HO
    isplitl [HtB0]; · iexact HtB0
    iexact Hf6
  iintro HO
  -- signal 1
  iapply (step_signal m ρ K c 1 _ (dev2 c)) $$ [HO HtB1 Hf5]
  · isplitr; · iexact HR
    isplitl [HO]; · iexact HO
    isplitl [HtB1]; · iexact HtB1
    iexact Hf5
  iintro HO
  -- signal 2
  iapply (step_signal m ρ K c 2 _ (dev3 c)) $$ [HO HtB2 Hf4]
  · isplitr; · iexact HR
    isplitl [HO]; · iexact HO
    isplitl [HtB2]; · iexact HtB2
    iexact Hf4
  iintro HO
  -- signal 3
  iapply (step_signal m ρ K c 3 _ (dev4 c)) $$ [HO HtB3 Hf3]
  · isplitr; · iexact HR
    isplitl [HO]; · iexact HO
    isplitl [HtB3]; · iexact HtB3
    iexact Hf3
  iintro HO
  -- signal 4
  iapply (step_signal m ρ K c 4 _ (dev5 c)) $$ [HO HtB4 Hf2]
  · isplitr; · iexact HR
    isplitl [HO]; · iexact HO
    isplitl [HtB4]; · iexact HtB4
    iexact Hf2
  iintro HO
  -- signal 5
  iapply (step_signal m ρ K c 5 _ (dev6 c)) $$ [HO HtB5 Hf1]
  · isplitr; · iexact HR
    isplitl [HO]; · iexact HO
    isplitl [HtB5]; · iexact HtB5
    iexact Hf1
  iintro HO
  -- signal 6
  iapply (step_signal m ρ K c 6 _ (dev7 c)) $$ [HO HtB6 Hf0]
  · isplitr; · iexact HR
    isplitl [HO]; · iexact HO
    isplitl [HtB6]; · iexact HtB6
    iexact Hf0
  iintro HO
  -- the masked rows
  iapply (step_load_idx m ρ c) $$ Hi; iintro Hi
  iapply (step_load_x m ρ c) $$ Hx; iintro Hx
  iapply (step_peek_m c) $$ Hm; iintro %v0 Hm
  iapply (step_mask m ρ c rfl) $$ Hm; iintro Hm
  iapply (step_load_w m ρ c) $$ Hw; iintro Hw
  -- parcel 0
  iapply (step_rows m ρ c 0) $$ Hm; iintro Hm
  iapply (step_peek c 0) $$ Hs0; iintro %u0 Hs0
  iapply (step_fill m ρ c 0 rfl) $$ Hs0; iintro Hs0
  -- parcel 1
  iapply (step_rows m ρ c 1) $$ Hm; iintro Hm
  iapply (step_peek c 1) $$ Hs1; iintro %u1 Hs1
  iapply (step_fill m ρ c 1 rfl) $$ Hs1; iintro Hs1
  -- parcel 2
  iapply (step_rows m ρ c 2) $$ Hm; iintro Hm
  iapply (step_peek c 2) $$ Hs2; iintro %u2 Hs2
  iapply (step_fill m ρ c 2 rfl) $$ Hs2; iintro Hs2
  -- parcel 3
  iapply (step_rows m ρ c 3) $$ Hm; iintro Hm
  iapply (step_peek c 3) $$ Hs3; iintro %u3 Hs3
  iapply (step_fill m ρ c 3 rfl) $$ Hs3; iintro Hs3
  -- parcel 4
  iapply (step_rows m ρ c 4) $$ Hm; iintro Hm
  iapply (step_peek c 4) $$ Hs4; iintro %u4 Hs4
  iapply (step_fill m ρ c 4 rfl) $$ Hs4; iintro Hs4
  -- parcel 5
  iapply (step_rows m ρ c 5) $$ Hm; iintro Hm
  iapply (step_peek c 5) $$ Hs5; iintro %u5 Hs5
  iapply (step_fill m ρ c 5 rfl) $$ Hs5; iintro Hs5
  -- parcel 6
  iapply (step_rows m ρ c 6) $$ Hm; iintro Hm
  iapply (step_peek c 6) $$ Hs6; iintro %u6 Hs6
  iapply (step_fill m ρ c 6 rfl) $$ Hs6; iintro Hs6
  iapply (step_own_rows m ρ c) $$ Hm; iintro Hm
  -- the barrier
  iapply (step_barrier m ρ K c) $$ [HcB HO HatB]
  · isplitr; · iexact HR
    isplitl [HcB]; · iexact HcB
    isplitl [HO]; · iexact HO
    isplitr; · iexact Hlev
    iexact HatB
  iintro ⟨HO, HzB, Hl⟩
  ihave Hl := (Entails.of_eq (bigSep_seven fun d : Fin 7 => freeSlot (F := F) (peer c d) d)) $$ Hl
  icases Hl with ⟨Hl0, Hl1, Hl2, Hl3, Hl4, Hl5, Hl6⟩
  -- transfer 0
  iapply (step_send m ρ K c 0 _ (dev8 c)) $$ [Hs0 Hl0 HO HtS0 HtV0]
  · isplitr; · iexact HR
    isplitl [Hs0]; · iexact Hs0
    isplitl [Hl0]; · iexact Hl0
    isplitl [HO]; · iexact HO
    isplitl [HtS0]; · iexact HtS0
    iexact HtV0
  iintro ⟨HcS0, HO⟩
  -- transfer 1
  iapply (step_send m ρ K c 1 _ (dev9 c)) $$ [Hs1 Hl1 HO HtS1 HtV1]
  · isplitr; · iexact HR
    isplitl [Hs1]; · iexact Hs1
    isplitl [Hl1]; · iexact Hl1
    isplitl [HO]; · iexact HO
    isplitl [HtS1]; · iexact HtS1
    iexact HtV1
  iintro ⟨HcS1, HO⟩
  -- transfer 2
  iapply (step_send m ρ K c 2 _ (dev10 c)) $$ [Hs2 Hl2 HO HtS2 HtV2]
  · isplitr; · iexact HR
    isplitl [Hs2]; · iexact Hs2
    isplitl [Hl2]; · iexact Hl2
    isplitl [HO]; · iexact HO
    isplitl [HtS2]; · iexact HtS2
    iexact HtV2
  iintro ⟨HcS2, HO⟩
  -- transfer 3
  iapply (step_send m ρ K c 3 _ (dev11 c)) $$ [Hs3 Hl3 HO HtS3 HtV3]
  · isplitr; · iexact HR
    isplitl [Hs3]; · iexact Hs3
    isplitl [Hl3]; · iexact Hl3
    isplitl [HO]; · iexact HO
    isplitl [HtS3]; · iexact HtS3
    iexact HtV3
  iintro ⟨HcS3, HO⟩
  -- transfer 4
  iapply (step_send m ρ K c 4 _ (dev12 c)) $$ [Hs4 Hl4 HO HtS4 HtV4]
  · isplitr; · iexact HR
    isplitl [Hs4]; · iexact Hs4
    isplitl [Hl4]; · iexact Hl4
    isplitl [HO]; · iexact HO
    isplitl [HtS4]; · iexact HtS4
    iexact HtV4
  iintro ⟨HcS4, HO⟩
  -- transfer 5
  iapply (step_send m ρ K c 5 _ (dev13 c)) $$ [Hs5 Hl5 HO HtS5 HtV5]
  · isplitr; · iexact HR
    isplitl [Hs5]; · iexact Hs5
    isplitl [Hl5]; · iexact Hl5
    isplitl [HO]; · iexact HO
    isplitl [HtS5]; · iexact HtS5
    iexact HtV5
  iintro ⟨HcS5, HO⟩
  -- transfer 6
  iapply (step_send m ρ K c 6 _ (dev14 c)) $$ [Hs6 Hl6 HO HtS6 HtV6]
  · isplitr; · iexact HR
    isplitl [Hs6]; · iexact Hs6
    isplitl [Hl6]; · iexact Hl6
    isplitl [HO]; · iexact HO
    isplitl [HtS6]; · iexact HtS6
    iexact HtV6
  iintro ⟨HcS6, HO⟩
  ihave HO := (Entails.of_eq (show owing (F := F) c (owe c 7 ((6 : Fin 7).val + 1)) = owing c 0 from congrArg (owing c) (owe_done c))) $$ HO
  -- arrival 0
  iapply (step_arrival m ρ K c 0) $$ [HcV0 HO HatV0]
  · isplitr; · iexact HR
    isplitl [HcV0]; · iexact HcV0
    isplitl [HO]; · iexact HO
    iexact HatV0
  iintro ⟨HO, HzV0, Hf0⟩
  iapply (step_read m ρ c 0) $$ Hf0; iintro Hf0
  -- arrival 1
  iapply (step_arrival m ρ K c 1) $$ [HcV1 HO HatV1]
  · isplitr; · iexact HR
    isplitl [HcV1]; · iexact HcV1
    isplitl [HO]; · iexact HO
    iexact HatV1
  iintro ⟨HO, HzV1, Hf1⟩
  iapply (step_read m ρ c 1) $$ Hf1; iintro Hf1
  -- arrival 2
  iapply (step_arrival m ρ K c 2) $$ [HcV2 HO HatV2]
  · isplitr; · iexact HR
    isplitl [HcV2]; · iexact HcV2
    isplitl [HO]; · iexact HO
    iexact HatV2
  iintro ⟨HO, HzV2, Hf2⟩
  iapply (step_read m ρ c 2) $$ Hf2; iintro Hf2
  -- arrival 3
  iapply (step_arrival m ρ K c 3) $$ [HcV3 HO HatV3]
  · isplitr; · iexact HR
    isplitl [HcV3]; · iexact HcV3
    isplitl [HO]; · iexact HO
    iexact HatV3
  iintro ⟨HO, HzV3, Hf3⟩
  iapply (step_read m ρ c 3) $$ Hf3; iintro Hf3
  -- arrival 4
  iapply (step_arrival m ρ K c 4) $$ [HcV4 HO HatV4]
  · isplitr; · iexact HR
    isplitl [HcV4]; · iexact HcV4
    isplitl [HO]; · iexact HO
    iexact HatV4
  iintro ⟨HO, HzV4, Hf4⟩
  iapply (step_read m ρ c 4) $$ Hf4; iintro Hf4
  -- arrival 5
  iapply (step_arrival m ρ K c 5) $$ [HcV5 HO HatV5]
  · isplitr; · iexact HR
    isplitl [HcV5]; · iexact HcV5
    isplitl [HO]; · iexact HO
    iexact HatV5
  iintro ⟨HO, HzV5, Hf5⟩
  iapply (step_read m ρ c 5) $$ Hf5; iintro Hf5
  -- arrival 6
  iapply (step_arrival m ρ K c 6) $$ [HcV6 HO HatV6]
  · isplitr; · iexact HR
    isplitl [HcV6]; · iexact HcV6
    isplitl [HO]; · iexact HO
    iexact HatV6
  iintro ⟨HO, HzV6, Hf6⟩
  iapply (step_read m ρ c 6) $$ Hf6; iintro Hf6
  -- sent slot 0
  iapply (step_sent m ρ K c 0) $$ [HcS0 HO HatS0]
  · isplitr; · iexact HR
    isplitl [HcS0]; · iexact HcS0
    isplitl [HO]; · iexact HO
    iexact HatS0
  iintro ⟨HO, HzS0, Hs0⟩
  -- sent slot 1
  iapply (step_sent m ρ K c 1) $$ [HcS1 HO HatS1]
  · isplitr; · iexact HR
    isplitl [HcS1]; · iexact HcS1
    isplitl [HO]; · iexact HO
    iexact HatS1
  iintro ⟨HO, HzS1, Hs1⟩
  -- sent slot 2
  iapply (step_sent m ρ K c 2) $$ [HcS2 HO HatS2]
  · isplitr; · iexact HR
    isplitl [HcS2]; · iexact HcS2
    isplitl [HO]; · iexact HO
    iexact HatS2
  iintro ⟨HO, HzS2, Hs2⟩
  -- sent slot 3
  iapply (step_sent m ρ K c 3) $$ [HcS3 HO HatS3]
  · isplitr; · iexact HR
    isplitl [HcS3]; · iexact HcS3
    isplitl [HO]; · iexact HO
    iexact HatS3
  iintro ⟨HO, HzS3, Hs3⟩
  -- sent slot 4
  iapply (step_sent m ρ K c 4) $$ [HcS4 HO HatS4]
  · isplitr; · iexact HR
    isplitl [HcS4]; · iexact HcS4
    isplitl [HO]; · iexact HO
    iexact HatS4
  iintro ⟨HO, HzS4, Hs4⟩
  -- sent slot 5
  iapply (step_sent m ρ K c 5) $$ [HcS5 HO HatS5]
  · isplitr; · iexact HR
    isplitl [HcS5]; · iexact HcS5
    isplitl [HO]; · iexact HO
    iexact HatS5
  iintro ⟨HO, HzS5, Hs5⟩
  -- sent slot 6
  iapply (step_sent m ρ K c 6) $$ [HcS6 HO HatS6]
  · isplitr; · iexact HR
    isplitl [HcS6]; · iexact HcS6
    isplitl [HO]; · iexact HO
    iexact HatS6
  iintro ⟨HO, HzS6, Hs6⟩
  -- the result
  iapply (step_peek_out c) $$ Hout; iintro %v1 Hout
  iapply (step_out m ρ c rfl) $$ Hout; iintro Hout
  rw [wp_ret]; imodintro
  iapply Hk
  isplitl [Hm Hs0 Hs1 Hs2 Hs3 Hs4 Hs5 Hs6 Hf0 Hf1 Hf2 Hf3 Hf4 Hf5 Hf6]
  · isplitl [Hm]; · iapply (masked_any m ρ c); iexact Hm
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hf0]; · iapply (landed_free m ρ c 0); iexact Hf0
    isplitl [Hf1]; · iapply (landed_free m ρ c 1); iexact Hf1
    isplitl [Hf2]; · iapply (landed_free m ρ c 2); iexact Hf2
    isplitl [Hf3]; · iapply (landed_free m ρ c 3); iexact Hf3
    isplitl [Hf4]; · iapply (landed_free m ρ c 4); iexact Hf4
    isplitl [Hf5]; · iapply (landed_free m ρ c 5); iexact Hf5
    iapply (landed_free m ρ c 6); iexact Hf6
  isplitl [HzB HzS0 HzS1 HzS2 HzS3 HzS4 HzS5 HzS6 HzV0 HzV1 HzV2 HzV3 HzV4 HzV5 HzV6]
  · isplitl [HzB]; · iexact HzB
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    iexact HzV6
  isplitl [HO]; · iexact HO
  isplitl [Hx]; · iexact Hx
  isplitl [Hi]; · iexact Hi
  isplitl [Hw]; · iexact Hw
  iexact Hout

end Body

end Cert.Exchange

end
-- ==== Proof.Deal.lean ====
/-
The launch's dealing: every cell's invariant is set up, every device gets the rights to pay the duties that are its
own to pay, and the credits it will wait for.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device as a list -/

omit [FloatOps F] in
theorem over_cells (Φ : Cell → sProp 𝕄) :
    bigSep Finset.univ Φ = iprop(Φ none ∗ (bigSep Finset.univ fun o : Fin 7 => Φ (some (false, o))) ∗ bigSep Finset.univ fun o : Fin 7 => Φ (some (true, o))) := by
  rw [bigSep_univ_equiv ((Equiv.optionEquivSumPUnit.{0} (Bool × Fin 7)).trans (Equiv.sumComm _ _)).symm, bigSep_univ_sum, bigSep_univ_prod,
    bigSep_univ_eq_bigSepL [PUnit.unit] (by decide) (by decide), bigSepL_singleton,
    bigSep_univ_eq_bigSepL [false, true] (by decide) (by decide), bigSepL_cons_cons, bigSepL_singleton]
  rfl

/-- The kernel's own fourteen semaphores. -/
abbrev osem : Bool × Fin 7 → SemLoc sig := fun p => csem (some p)

theorem ownSemFacts : Pipeline.OwnSemFacts cfg0.spec osem := by decide

/-! ## What is set up at launch -/

def allCells : Finset (GSem nD τ sig) := Finset.univ.map ⟨kcell, kcell_injective⟩

/-- The duties: seven of each barrier, one of each send and each receive cell. -/
abbrev Task : Type := Fin 7 ⊕ (Bool × Fin 7)
abbrev tokOf (cj : Dev nD × Task) : GSem nD τ sig × ℕ × Fin 7 := match cj.2 with
  | .inl o => (barCell cj.1, 0, o)
  | .inr p => (kcell (cj.1, some p), 0, 0)
theorem tokOf_injective : Function.Injective (tokOf : Dev nD × Task → GSem nD τ sig × ℕ × Fin 7) := by
  rintro ⟨c, j⟩ ⟨c', j'⟩ h
  have key : ∀ x y : Cell, kcell (c, x) = kcell (c', y) → c = c' ∧ x = y := fun x y h => by
    have := kcell_injective h; exact ⟨congrArg Prod.fst this, congrArg Prod.snd this⟩
  rcases j with o | p <;> rcases j' with o' | p'
  · obtain ⟨rfl, -⟩ := key none none (congrArg Prod.fst h)
    have : o = o' := congrArg (fun x : GSem nD τ sig × ℕ × Fin 7 => x.2.2) h
    subst this; rfl
  · exact absurd (key none (some p') (congrArg Prod.fst h)).2 (by simp)
  · exact absurd (key (some p) none (congrArg Prod.fst h)).2 (by simp)
  · obtain ⟨rfl, h2⟩ := key (some p) (some p') (congrArg Prod.fst h)
    cases h2; rfl
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duty tokens of device `c`'s own cells; -/
def toks (c : Dev nD) : sProp 𝕄 :=
  iprop((bigSep Finset.univ fun o : Fin 7 => dutyTok ER (barCell c) 0 o)
    ∗ (bigSep Finset.univ fun o : Fin 7 => dutyTok ER (sendCell c o) 0 0)
    ∗ (bigSep Finset.univ fun o : Fin 7 => dutyTok ER (recvCell c o) 0 0))
/-- the tokens of the duties device `c` pays. -/
def payToks (c : Dev nD) : sProp 𝕄 :=
  iprop((bigSep Finset.univ fun o : Fin 7 => dutyTok ER (barCell (peer c o)) 0 (back o))
    ∗ (bigSep Finset.univ fun o : Fin 7 => dutyTok ER (sendCell c o) 0 0)
    ∗ (bigSep Finset.univ fun o : Fin 7 => dutyTok ER (recvCell (peer c o) o) 0 0))

def G (c : Dev nD) : sProp 𝕄 :=
  iprop((bigSep Finset.univ fun k : Cell => roundState ER (Rd m ρ) (kcell (c, k)) 0)
    ∗ (bigSep Finset.univ fun k : Cell => iprop(atPos ER (kcell (c, k)) 0 ∅ 0 ∗ reached ER (kcell (c, k)) 0)) ∗ toks c)
def G' (c : Dev nD) : sProp 𝕄 := iprop(∃ K, records m ρ K ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_prod (α := Bool), bigSep_univ_eq_bigSepL [false, true] (by decide) (by decide), bigSepL_cons_cons, bigSepL_singleton]
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun o : Fin 7 => semVal (sendCell c o) 0) ∗ bigSep Finset.univ fun o : Fin 7 => semVal (recvCell c o) 0) := by
  unfold Pipeline.ownSems0
  rw [bigSep_univ_prod, bigSep_univ_eq_bigSepL [false, true] (by decide) (by decide), bigSepL_cons_cons, bigSepL_singleton]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, over_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to whoever pays: a family held cell by cell is held, after turning the ring, payer by payer. -/
theorem deal (Φ : Dev nD → Fin 7 → sProp 𝕄) (f : Fin 7 ≃ Fin 7) :
    (bigSep Finset.univ fun c : Dev nD => bigSep Finset.univ fun o : Fin 7 => Φ c (f o))
      = bigSep Finset.univ fun c : Dev nD => bigSep Finset.univ fun o : Fin 7 => Φ (peer c o) (f o) := by
  rw [bigSep_univ_comm, bigSep_univ_comm (fun (c : Dev nD) (o : Fin 7) => Φ (peer c o) (f o))]
  exact bigSep_congr fun o _ => bigSep_univ_equiv (turn o) fun c => Φ c (f o)

omit [FloatOps F] in
theorem toks_around : (bigSep Finset.univ fun c : Dev nD => (toks c : sProp 𝕄)) ⊢ bigSep Finset.univ fun c : Dev nD => payToks c := by
  have h3 := deal (fun c o => (dutyTok ER (recvCell c o) 0 0 : sProp 𝕄)) (Equiv.refl _)
  simp only [Equiv.refl_apply] at h3
  unfold toks payToks
  rw [bigSep_sep', bigSep_sep', bigSep_sep', bigSep_sep',
    bigSep_congr (s := Finset.univ) (fun (c : Dev nD) _ => bigSep_univ_equiv flip (fun o : Fin 7 => (dutyTok ER (barCell c) 0 o : sProp 𝕄))),
    deal (fun c o => (dutyTok ER (barCell c) 0 o : sProp 𝕄)) flip, h3]
  exact Entails.refl _

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_eq (c : Dev nD) :
    iprop((bigSep Finset.univ fun k : Cell => (atPos ER (kcell (c, k)) 0 ∅ 0 : sProp 𝕄)) ∗ payToks c) ⊢ linear c := by
  unfold linear payToks
  rw [over_cells]
  iintro ⟨⟨H1, H2, H3⟩, H4, H5, H6⟩
  isplitl [H1]; · iexact H1
  isplitl [H2]; · iexact H2
  isplitl [H3]; · iexact H3
  isplitl [H4]; · iexact H4
  isplitl [H5] <;> iassumption

theorem regroup :
    (bigSep Finset.univ fun c : Dev nD => iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (toks_around (F := F)) $$ Htok
  iapply (with_records (R := records m ρ K) (Φ := fun c => linear c) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Cell => (atPos ER (kcell (c, k)) 0 ∅ 0 : sProp 𝕄)) payToks).symm).trans
      (bigSep_mono fun c _ => linear_eq c))
    isplitl [Hat]; · iexact Hat
    iexact Htk

/-- All devices' semaphores at once become the cells' invariants, places and tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What a sum of one-cell tallies gives at a cell. -/
theorem sum_tally_at (cell : Fin 7 → GSem nD τ sig) (n : ℕ) (g : GSem nD τ sig) :
    (∑ k : Fin 7, if 0 ≤ k.val then (tallyAt (cell k) () n : CellTallies nD τ sig Unit) else 0) g () = ∑ k : Fin 7, if g = cell k then n else 0 := by
  rw [Finset.sum_apply, Finsupp.finset_sum_apply]
  refine Finset.sum_congr rfl fun k _ => ?_
  rw [if_pos (Nat.zero_le _), tallyAt_apply]
  simp only [and_true]

theorem kcell_eq_iff (a b : Dev nD) (x y : Cell) : kcell (a, x) = kcell (b, y) ↔ a = b ∧ x = y :=
  ⟨fun h => by have := kcell_injective h; exact ⟨congrArg Prod.fst this, congrArg Prod.snd this⟩, fun ⟨h1, h2⟩ => by rw [h1, h2]⟩

theorem eq_peer_iff (c d : Dev nD) (k : Fin 7) : c = peer d k ↔ d = origin c k :=
  ⟨fun h => by rw [h, origin_peer], fun h => by rw [h, peer_origin]⟩

/-- All devices together owe a barrier seven units; -/
theorem owed_bar (c : Dev nD) : (∑ d : Dev nD, owe d 0 0 (barCell c) ()) = 7 := by
  have h (d : Dev nD) : owe d 0 0 (barCell c) () = ∑ k : Fin 7, if d = origin c k then 1 else 0 := by
    unfold owe rcvOwe barOwe
    rw [Pi.add_apply, Finsupp.add_apply, sum_tally_at (fun k => recvCell (peer d k) k), sum_tally_at (fun k => barCell (peer d k)),
      Finset.sum_eq_zero (fun k _ => if_neg fun h => absurd ((kcell_eq_iff c (peer d k) none (some (true, k))).mp h).2 (by simp)), zero_add]
    refine Finset.sum_congr rfl fun k _ => if_congr ?_ rfl rfl
    exact (kcell_eq_iff c (peer d k) none none).trans ⟨fun h => (eq_peer_iff c d k).mp h.1, fun h => ⟨(eq_peer_iff c d k).mpr h, rfl⟩⟩
  rw [Finset.sum_congr rfl fun d _ => h d, Finset.sum_comm]
  rw [Finset.sum_congr rfl fun (k : Fin 7) _ => (Finset.sum_ite_eq' Finset.univ (origin c k) fun _ => 1).trans (if_pos (Finset.mem_univ _))]
  decide

/-- and a receive cell one slot's credit. -/
theorem owed_recv (c : Dev nD) (o : Fin 7) : (∑ d : Dev nD, owe d 0 0 (recvCell c o) ()) = N := by
  have h (d : Dev nD) : owe d 0 0 (recvCell c o) () = if d = origin c o then N else 0 := by
    unfold owe rcvOwe barOwe
    rw [Pi.add_apply, Finsupp.add_apply, sum_tally_at (fun k => recvCell (peer d k) k), sum_tally_at (fun k => barCell (peer d k)),
      Finset.sum_eq_zero (s := Finset.univ) (f := fun k : Fin 7 => if recvCell c o = barCell (peer d k) then 1 else 0)
        (fun k _ => if_neg fun h => absurd ((kcell_eq_iff c (peer d k) (some (true, o)) none).mp h).2 (by simp)), add_zero]
    rw [Finset.sum_congr rfl fun (k : Fin 7) _ => show (if recvCell c o = recvCell (peer d k) k then N else 0) = if k = o then (if d = origin c o then N else 0) else 0 from by
      by_cases hk : k = o
      · subst hk
        rw [if_pos rfl]
        exact if_congr ((kcell_eq_iff c (peer d k) (some (true, k)) (some (true, k))).trans
          ⟨fun h => (eq_peer_iff c d k).mp h.1, fun h => ⟨(eq_peer_iff c d k).mpr h, rfl⟩⟩) rfl rfl
      · rw [if_neg hk]
        refine if_neg fun h => hk ?_
        have := ((kcell_eq_iff c (peer d k) (some (true, o)) (some (true, k))).mp h).2
        exact (congrArg Prod.snd (Option.some.inj this)).symm]
    rw [Finset.sum_ite_eq' Finset.univ o, if_pos (Finset.mem_univ _)]
  rw [Finset.sum_congr rfl fun d _ => h d, Finset.sum_ite_eq' Finset.univ (origin c o) fun _ => N, if_pos (Finset.mem_univ _)]

theorem launch_bar (c : Dev nD) :
    tallyOn (barCell c) (launchCredit (Pipeline.owing fun d => owe d 0 0) 0 (barCell c)) = (tallyAt (barCell c) () 7 : CellTallies nD τ sig Unit) := by
  unfold tallyAt; refine congrArg _ (Finsupp.ext fun u => ?_); cases u
  rw [Pipeline.launchCredit_owing, Finsupp.single_eq_same, owed_bar]
theorem launch_recv (c : Dev nD) (o : Fin 7) :
    tallyOn (recvCell c o) (launchCredit (Pipeline.owing fun d => owe d 0 0) 0 (recvCell c o)) = (tallyAt (recvCell c o) () N : CellTallies nD τ sig Unit) := by
  unfold tallyAt; refine congrArg _ (Finsupp.ext fun u => ?_); cases u
  rw [Pipeline.launchCredit_owing, Finsupp.single_eq_same, owed_recv]

omit [FloatOps F] in
theorem creds (c : Dev nD) : (Pipeline.launchCred (fun d => owe d 0 0) c : sProp 𝕄) ⊢ credits c := by
  unfold Pipeline.launchCred credits
  rw [bigSep_univ_at _ (SemLoc.reg barS), launch_bar]
  refine sep_mono_right ?_
  have inj : Set.InjOn (fun o : Fin 7 => (SemLoc.dma (recvS o) : SemLoc sig)) (Finset.univ : Finset (Fin 7)) := fun o _ o' _ h => by
    have := csem_injective (a₁ := some (true, o)) (a₂ := some (true, o')) h
    exact congrArg Prod.snd (Option.some.inj this)
  refine (bigSep_subset (t := Finset.univ.image fun o : Fin 7 => (SemLoc.dma (recvS o) : SemLoc sig)) ?_).trans ?_
  · intro x hx
    obtain ⟨o, -, rfl⟩ := Finset.mem_image.mp hx
    exact Finset.mem_erase.mpr ⟨fun h => (by cases h), Finset.mem_univ _⟩
  · rw [bigSep_image_of_injOn inj]
    exact bigSep_mono fun o _ => by rw [← launch_recv c o]; exact Entails.refl _

end Cert.Exchange

end
-- ==== Proof.Launch.lean ====
/-
The launch on all eight devices: from any memory with counters at zero every weakly fair run ends, with the arguments
as they were, the result as computed, and the counters at zero.
-/
module

public import proofs.«01_k».proof.Proof.Deal
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Going in and coming out -/

theorem start_intro (c : Dev nD) :
    iprop(Pipeline.unscopedRestP Pipeline.Prefetch.none cfg0.spec c (fun b => m ((c : Thread nD τ).loc b)) ∗ levAts L lv
        ∗ Pipeline.launchCred (fun d => owe d 0 0) c ∗ prngReg c (ρ c) ∗ G' m ρ c)
      ⊢ |={Set.univ}=> iprop(start m ρ c ∗ ((c : Thread nD τ).loc main_arg1 ↦{fullShare} m ((c : Thread nD τ).loc main_arg1))) := by
  rw [Pipeline.unscopedRestP_none, show (cfg0.spec) = spec0 from rfl, unscopedRest0_eq]
  iintro ⟨Ha, Hlev, Hcr, -, HG⟩
  ihave Hc := (creds (F := F) c) $$ Hcr
  imodintro
  unfold start G'
  isplitr [Ha]
  · isplitl [HG]; · iexact HG
    isplitl [Hc]; · iexact Hc
    iexact Hlev
  · iexact Ha

omit [FloatOps F] in
/-- A buffer held whole is held slot by slot, each at some contents. -/
theorem slots_split (ℓ : Loc nD τ sig) (I : Fin 7 → Finset (Idx ℓ)) (hd : ∀ o o', o ≠ o' → Disjoint (I o) (I o')) (hc : Finset.univ.biUnion I = Finset.univ)
    (f : Buf (Elt F) ℓ) : (ℓ ↦{fullShare} f : sProp 𝕄) ⊢ bigSep Finset.univ fun o : Fin 7 => iprop(∃ g : Buf (Elt F) ℓ, ℓ ↦[I o]{fullShare} g) := by
  rw [Ring.pointsTo_blocks I hd hc f]
  have h (o : Fin 7) : (ℓ ↦[I o]{fullShare} f : sProp 𝕄) ⊢ iprop(∃ g : Buf (Elt F) ℓ, ℓ ↦[I o]{fullShare} g) := by
    iintro H; iexists f; iexact H
  exact bigSep_mono fun o _ => h o

omit [FloatOps F] in
theorem scratch_in (c : Dev nD) : (Pipeline.scopedRest (Ix := Unit) (Name := ℕ) (U := UU) (Lvl := ℕ) (Val := Elt F) spec0 c : sProp 𝕄) ⊢ scratch c := by
  rw [scopedRest0_eq]
  unfold scratch anyBuf sentSlot freeSlot sendPts recvPts
  iintro ⟨Hm, ⟨%fs, Hs⟩, ⟨%fr, Hr⟩⟩
  isplitl [Hm]; · iexact Hm
  isplitl [Hs]
  · iapply (slots_split ((c : Thread nD τ).loc cc0_scratch1) slotI slot_disjoint slot_cover fs); iexact Hs
  · iapply (slots_split ((c : Thread nD τ).loc cc0_scratch2) slotI slot_disjoint slot_cover fr); iexact Hr

omit [FloatOps F] in
/-- Slots held at any contents make up the buffer held at some contents. -/
theorem slots_join (ℓ : Loc nD τ sig) (I : Fin 7 → Finset (Idx ℓ)) (hd : ∀ o o', o ≠ o' → Disjoint (I o) (I o')) (hc : Finset.univ.biUnion I = Finset.univ) :
    (bigSep Finset.univ fun o : Fin 7 => iprop(∃ f : Buf (Elt F) ℓ, ℓ ↦[I o]{fullShare} f)) ⊢ (iprop(∃ g : Buf (Elt F) ℓ, ℓ ↦{fullShare} g) : sProp 𝕄) := by
  rw [bigSep_univ_at _ (0 : Fin 7)]
  iintro ⟨⟨%f, H⟩, Hr⟩
  iapply (Ring.pointsTo_blocks_join_exists I hd hc f)
  rw [bigSep_univ_at _ (0 : Fin 7)]
  isplitl [H]; · iexists f; iexact H
  iexact Hr

omit [FloatOps F] in
theorem scratch_out (c : Dev nD) : scratch c ⊢ (Pipeline.scopedRest (Ix := Unit) (Name := ℕ) (U := UU) (Lvl := ℕ) (Val := Elt F) spec0 c : sProp 𝕄) := by
  rw [scopedRest0_eq]
  unfold scratch anyBuf sentSlot freeSlot sendPts recvPts
  iintro ⟨Hm, Hs, Hr⟩
  isplitl [Hm]; · iexact Hm
  isplitl [Hs]
  · iapply (slots_join ((c : Thread nD τ).loc cc0_scratch1) slotI slot_disjoint slot_cover); iexact Hs
  · iapply (slots_join ((c : Thread nD τ).loc cc0_scratch2) slotI slot_disjoint slot_cover); iexact Hr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (cfg0.spec) = spec0 from rfl]
  unfold Φ₀
  iintro ⟨Hs, -, Hr⟩
  isplitl [Hs]; · iexact Hs
  iapply (scratch_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (cfg0.spec) = spec0 from rfl, ownSems0_eq, unscopedSems0_eq]
  unfold Φ₁ zeros
  iintro ⟨Hr, HzB, HzS, HzV⟩
  isplitl [HzB]; · iexact HzB
  isplitl [HzS HzV]
  · isplitl [HzS] <;> iassumption
  iapply (scratch_out (F := F) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The body's obligation -/

set_option maxRecDepth 4000 in
def atBody (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def afterBody (c : Dev nD) : sProp 𝕄 :=
  iprop(Φ₁ c ∗ (dats m ρ 0 c).owesAt () t₀.succ
    ∗ stg c cc0_stg0_0 (xAt m ρ c) ∗ stg c cc0_stg1_0 (idxAt m ρ c) ∗ stg c cc0_stg2_0 (wAt m ρ c) ∗ stg c cc0_stg3_0 (outAt m ρ c))

theorem before_x (c : Dev nD) (d) : (dats m ρ 0 c).before (0 : Fin 4) t₀ d = xAt m ρ c := by
  unfold Dat.before; rw [if_pos (fetch0_0 t₀)]; rfl
theorem before_idx (c : Dev nD) (d) : (dats m ρ 0 c).before (1 : Fin 4) t₀ d = idxAt m ρ c := by
  unfold Dat.before; rw [if_pos (fetch0_1 t₀)]; rfl
theorem before_w (c : Dev nD) (d) : (dats m ρ 0 c).before (2 : Fin 4) t₀ d = wAt m ρ c := by
  unfold Dat.before; rw [if_pos (fetch0_2 t₀)]; rfl

theorem into_body (K : Dev nD × Cell → ℕ) (c : Dev nD) :
    iprop((records m ρ K ∗ linear c) ∗ (credits c ∗ levAts L lv) ∗ scratch c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d))) ⊢ bodyPre m ρ K c := by
  simp only [before_x, before_idx, before_w]
  unfold bodyPre anyOut owing Dat.owesAt Pipeline.owesWithin
  rw [show (dats m ρ 0 c).owed t₀.castSucc = owe c 0 0 from rfl]
  iintro ⟨⟨HR, Hl⟩, ⟨Hc, Hlev⟩, Hs, ⟨%W, -, HO⟩, ⟨%d0, Hx⟩, ⟨%d1, Hi⟩, ⟨%d2, Hw⟩, ⟨%d3, %f, -, Ho⟩⟩
  isplitl [HR]; · iexact HR
  isplitl [Hl]; · iexact Hl
  isplitl [Hc]; · iexact Hc
  isplitl [Hlev]; · iexact Hlev
  isplitl [Hs]; · iexact Hs
  isplitl [HO]; · iexists W; iexact HO
  isplitl [Hx]; · iexact Hx
  isplitl [Hi]; · iexact Hi
  isplitl [Hw]; · iexact Hw
  iexists f; iexact Ho

theorem out_of_body (c : Dev nD) : bodyPost m ρ c ⊢ afterBody m ρ c := by
  unfold bodyPost afterBody Φ₁ owing Dat.owesAt Pipeline.owesWithin
  rw [show (dats m ρ 0 c).owed t₀.succ = 0 from rfl]
  iintro ⟨Hs, Hz, ⟨%W, HO⟩, Hx, Hi, Hw, Ho⟩
  isplitl [Hs Hz]; · isplitl [Hs] <;> iassumption
  isplitl [HO]
  · iexists W; isplitr; · ipureintro; exact fun _ _ => Or.inl trivial
    iexact HO
  isplitl [Hx]; · iexact Hx
  isplitl [Hi]; · iexact Hi
  isplitl [Hw] <;> iassumption

set_option maxRecDepth 4000 in
theorem body_obligation (c : Dev nD) : BodyObligation (dats (F := F) m ρ 0 c) (defs₀ (F := F)) 𝒱₀ () Set.univ := fun t => by
  rw [only_point t]
  rw [bigSep_W0, bigSep_W0]
  simp only [owns_whole_eq]
  show atBody m ρ c ⊢ wp frame (wpE (defs₀ (F := F)) 𝒱₀ c none) Set.univ
    (cc0_body xM (Memref.isWhole_whole _) iM (Memref.isWhole_whole _) wM (Memref.isWhole_whole _) oM (Memref.isWhole_whole _)
            mM (Memref.isWhole_whole _) sM (Memref.isWhole_whole _) rM (Memref.isWhole_whole _) cc0_scratch3 cc0_scratch4) (fun _ => afterBody m ρ c)
  unfold atBody Φ₀ start
  iintro ⟨⟨⟨⟨%K, Hg⟩, Hrest⟩, Hscr⟩, Ho, Hw⟩
  iapply (sound_body m ρ K c fun _ => afterBody m ρ c)
  isplitl
  · iapply (into_body m ρ K c)
    isplitl [Hg]; · iexact Hg
    isplitl [Hrest]; · iexact Hrest
    isplitl [Hscr]; · iexact Hscr
    isplitl [Ho]; · iexact Ho
    iexact Hw
  · iintro H; iapply (out_of_body m ρ c); iexact H

/-! ## The run -/

/-- The array of window `w` when the run is over. -/
def finalA (c : Dev nD) (w : Fin cfg0.W) : Buf (Elt F) ((cfg0.win w).arr.view.loc (c : Thread nD τ)) := (dats m ρ 0 c).arrAt w cfg0.N

/-- The final state: each window's array at its final contents and the argument no window reads unchanged, on every device. -/
def Finished : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values, from any memory with zero counters: every weakly fair execution on the eight devices ends in
    a finished state with every counter at zero. -/
theorem run_main : θ_run defs (onTc (τ := τ) (main (F := F))) (s₀ m ρ) (fun r => Finished m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 0 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c)
    (Z := fun c => iprop((c : Thread nD τ).loc main_arg1 ↦{fullShare} m ((c : Thread nD τ).loc main_arg1)))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Ha, HSI⟩
      icombine HSI Ha gives %h
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ h, hs⟩
      · iexact HSI)
    (hQ := fun _ h hs => ⟨fun c => ⟨fun w => (h c).1 w, (h c).2.2.1⟩, sem_eq_zero hs fun c => (h c).2.2.2⟩)

/-! ## The final arrays -/

theorem final_x (c : Dev nD) : finalA m ρ c (0 : Fin 4) = m ((c : Thread nD τ).loc main_arg0) :=
  (dats (F := F) m ρ 0 c).arrAt_in (0 : Fin 4) rfl _
theorem final_idx (c : Dev nD) : finalA m ρ c (1 : Fin 4) = m ((c : Thread nD τ).loc main_arg2) :=
  (dats (F := F) m ρ 0 c).arrAt_in (1 : Fin 4) rfl _
theorem final_w (c : Dev nD) : finalA m ρ c (2 : Fin 4) = m ((c : Thread nD τ).loc main_arg3) :=
  (dats (F := F) m ρ 0 c).arrAt_in (2 : Fin 4) rfl _

/-- All four arguments as they were. -/
theorem args_kept (r : PUnit × MemSt nD τ sig (Elt F)) (h : Finished m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  ⟨((h c).1 (0 : Fin 4)).trans (final_x m ρ c), (h c).2, ((h c).1 (1 : Fin 4)).trans (final_idx m ρ c), ((h c).1 (2 : Fin 4)).trans (final_w m ρ c)⟩

end Cert.Exchange

end
-- ==== Proof.Whole.lean ====
/-
Each window's one block is its whole array: what is staged is the whole argument, and the result array ends
as what the body leaves.
-/
module

public import proofs.«01_k».proof.Proof.Launch
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-- The staged block of each argument is the argument. -/
theorem xAt_eq : xAt m ρ c = m ((c : Thread nD τ).loc main_arg0) :=
  Memref.read_access_unit_zero (Elt F) main_arg0 (funext fun a => Nat.zero_mul _) _ _
theorem idxAt_eq : idxAt m ρ c = m ((c : Thread nD τ).loc main_arg2) :=
  Memref.read_access_unit_zero (Elt F) main_arg2 (funext fun a => Nat.zero_mul _) _ _
theorem wAt_eq : wAt m ρ c = m ((c : Thread nD τ).loc main_arg3) :=
  Memref.read_access_unit_zero (Elt F) main_arg3 (funext fun a => Nat.zero_mul _) _ _

/-- The block of the result window, read from any contents of the result array, is those contents. -/
theorem read_result (t : Fin 1) (f : Vec F S64x512 .f32) : (win0_3.blk t).view.read (Elt F) f = f :=
  Memref.read_access_unit_zero (Elt F) main_v1 (funext fun a => Nat.zero_mul _) _ _

/-- Every index of the result array lies in that block. -/
theorem mem_result (t : Fin 1) (i : S64x512.Idx) : i ∈ (win0_3.blk t).view.set := by
  show i ∈ ((View.whole main_v1).slice (win0_3.rect t)).set
  rw [View.set_slice_whole, Rect.mem_set_unit]
  intro a
  show 0 * _ ≤ (i a).val ∧ (i a).val < 0 * _ + _
  rw [Nat.zero_mul, Nat.zero_add]
  exact ⟨Nat.zero_le _, (i a).isLt⟩

/-- The result array at the end of the run. -/
theorem final_out : finalA m ρ c (3 : Fin 4) = outAt m ρ c :=
  (dats m ρ 0 c).arrAt_eq_of_cover (3 : Fin 4) (outAt m ρ c) (fun t _ => (read_result t (outAt m ρ c)).symm ▸ rfl)
    (fun i => ⟨t₀, flush0_3 _, mem_result t₀ i⟩)

end Cert.Exchange

end
-- ==== Proof.Spec.lean ====
/-
What both programs compute, in plain arithmetic over the extended reals: which tokens an expert takes,
and the sum over the experts of the products of the taken tokens' rows with the experts' weights.
-/
module

public import Idealize.ShloMosaic.Lib.Pointwise

@[expose] public section

noncomputable section

namespace Cert.Exchange.Spec

open Idealize.ShloMosaic

/-- The array of the tokens' choices, of the tokens' rows, and of the sixteen experts' weights. -/
abbrev Choices : Type := Vec Ideal ⟨2, ![512, 1]⟩ .i32
abbrev Rows : Type := Vec Ideal ⟨2, ![512, 256]⟩ .bf16
abbrev Experts : Type := Vec Ideal ⟨3, ![16, 256, 512]⟩ .bf16

/-- Token `t` chose expert `e`. -/
def Chose (idx : Choices) (e : ℕ) (t : Fin 512) : Prop := idx (ix2 t 0) = BitVec.ofNat 32 e

instance (idx : Choices) (e : ℕ) (t : Fin 512) : Decidable (Chose idx e t) := by unfold Chose; infer_instance

/-- How many of the tokens up to and including `t` chose expert `e`. -/
def upTo (idx : Choices) (e : ℕ) (t : Fin 512) : ℕ := (Finset.univ.filter fun s : Fin 512 => s ≤ t ∧ Chose idx e s).card

/-- Expert `e` takes token `t`: the token chose it, and is among the first twenty-five that did. -/
def Taken (idx : Choices) (e : ℕ) (t : Fin 512) : Prop := Chose idx e t ∧ upTo idx e t ≤ 25

instance (idx : Choices) (e : ℕ) (t : Fin 512) : Decidable (Taken idx e t) := by unfold Taken; infer_instance

/-- Expert `e`'s contribution to entry `h` of token `t`'s result. -/
def part (x : Rows) (idx : Choices) (W : Experts) (e : Fin 16) (t h : Fin 512) : EReal :=
  if Taken idx e.val t then ∑ k : Fin 256, x (ix2 t k) * W (ix3 e k h) else 0

/-- Entry `h` of token `t`'s result. -/
def total (x : Rows) (idx : Choices) (W : Experts) (t h : Fin 512) : EReal := ∑ e : Fin 16, part x idx W e t h

/-- There are 512 tokens, so no count exceeds 512. -/
theorem upTo_le (idx : Choices) (e : ℕ) (t : Fin 512) : upTo idx e t ≤ 512 := by
  unfold upTo
  exact (Finset.card_le_univ _).trans (by simp)

/-- A token that chose the expert is itself counted. -/
theorem upTo_pos {idx : Choices} {e : ℕ} {t : Fin 512} (h : Chose idx e t) : 0 < upTo idx e t :=
  Finset.card_pos.mpr ⟨t, by simp [h]⟩

/-- The count as a sum of ones, wherever one can add. -/
theorem sum_upTo {R : Type} [AddCommMonoidWithOne R] (idx : Choices) (e : ℕ) (t : Fin 512) :
    (∑ s : Fin 512, if s ≤ t ∧ Chose idx e s then (1 : R) else 0) = (upTo idx e t : R) := by
  unfold upTo
  rw [Finset.sum_boole]

end Cert.Exchange.Spec

end
-- ==== Proof.Counted.lean ====
/-
The kernel's own arithmetic at one index, first part: the counts, and the masked rows.
-/
module

public import proofs.«01_k».proof.Proof.Gen.KernelIdeal.Skeleton
public import proofs.«01_k».proof.Proof.Spec

@[expose] public section

noncomputable section

namespace Cert.Exchange

open Cert.KernelIdeal Cert.KernelIdeal.Gen
open Idealize.ShloMosaic
open Cert.Exchange.Spec

/-- A truth value turned into a number is one or zero. -/
theorem bit_number (p : Prop) [Decidable p] :
    (FloatOps.sitofp .f32 (BitVec.setWidth 32 (BitVec.ofBool (decide p))) : Ideal .f32) = if p then (1 : EReal) else 0 := by
  by_cases h : p
  · rw [decide_eq_true h, if_pos h]
    show (((BitVec.setWidth 32 (BitVec.ofBool true)).toInt : ℝ) : EReal) = 1
    rw [show (BitVec.setWidth 32 (BitVec.ofBool true)).toInt = 1 from rfl]
    norm_num
  · rw [decide_eq_false h, if_neg h]
    show (((BitVec.setWidth 32 (BitVec.ofBool false)).toInt : ℝ) : EReal) = 0
    rw [show (BitVec.setWidth 32 (BitVec.ofBool false)).toInt = 0 from rfl]
    norm_num

/-- The printed capacity is twenty-five. -/
theorem capacity_real : Ideal.ofBits .f32 0x41C80000#32 = (25 : EReal) := by
  rw [show (25 : EReal) = ((25 : ℝ) : EReal) by norm_cast]
  simp [Ideal.ofBits, Ideal.ieee, -EReal.coe_mul]; norm_num

/-- Two token numbers compare as words as they do as numbers. -/
theorem sle_tokens {a b : ℕ} (ha : a < 512) (hb : b < 512) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide]
  congr 1
  rw [BitVec.toInt_eq_toNat_of_lt (by simp; omega), BitVec.toInt_eq_toNat_of_lt (by simp; omega)]
  simp
  omega

/-- The product with the triangle of ones counts: entry `t` is the number of tokens up to `t` that chose the expert. -/
theorem count_real (idx : Choices) (e : ℕ) (t : Fin 512) :
    (∑ s : Fin 512, (FloatOps.sitofp .f32 (BitVec.setWidth 32 (IntOp.cmpi .sle (BitVec.ofNat 32 s.val) (BitVec.ofNat 32 t.val))) : Ideal .f32)
        * (FloatOps.sitofp .f32 (BitVec.setWidth 32 (IntOp.cmpi .eq (idx (ix2 s 0)) (BitVec.ofNat 32 e))) : Ideal .f32))
      = ((upTo idx e t : ℕ) : EReal) := by
  rw [← sum_upTo]
  refine Finset.sum_congr rfl fun s _ => ?_
  rw [sle_tokens s.isLt t.isLt, bit_number]
  have h : IntOp.cmpi .eq (idx (ix2 s 0)) (BitVec.ofNat 32 e) = BitVec.ofBool (decide (Chose idx e s)) := by
    unfold Chose
    show BitVec.ofBool (_ == _) = _
    congr 1
  rw [h, bit_number]
  by_cases h1 : s ≤ t <;> by_cases h2 : Chose idx e s <;> simp [h1, h2, Fin.le_def.symm]

/-- The kernel's mask, as a choice: the printed select at expert `e` and token `t` takes its first value exactly
    when the expert takes the token. -/
theorem select_taken (idx : Choices) (e : ℕ) (t : Fin 512) (a : EReal) :
    Scalar.select (IntOp.andi (IntOp.cmpi .eq (idx (ix2 t 0)) (BitVec.ofNat 32 e))
      (BitVec.ofBool (decide (((upTo idx e t : ℕ) : EReal) ≤ Ideal.ofBits .f32 0x41C80000#32)))) a (0 : EReal)
      = if Taken idx e t then a else 0 := by
  have h : IntOp.cmpi .eq (idx (ix2 t 0)) (BitVec.ofNat 32 e) = BitVec.ofBool (decide (Chose idx e t)) := by
    unfold Chose
    show BitVec.ofBool (_ == _) = _
    congr 1
  have h' : ((upTo idx e t : ℕ) : EReal) ≤ 25 ↔ upTo idx e t ≤ 25 := by
    exact_mod_cast Nat.cast_le (α := EReal)
  rw [h, capacity_real]
  simp only [h']
  unfold Taken
  by_cases h1 : Chose idx e t <;> by_cases h2 : upTo idx e t ≤ 25 <;> simp [h1, h2, Scalar.select, IntOp.andi]

/-- The same with the count as the product computes it. -/
theorem mask_real (idx : Choices) (e : ℕ) (t : Fin 512) (a : EReal) :
    Scalar.select (IntOp.andi (IntOp.cmpi .eq (idx (ix2 t 0)) (BitVec.ofNat 32 e))
      (BitVec.ofBool (decide ((∑ s : Fin 512,
        (FloatOps.sitofp .f32 (BitVec.setWidth 32 (IntOp.cmpi .sle (BitVec.ofNat 32 s.val) (BitVec.ofNat 32 t.val))) : Ideal .f32)
        * (FloatOps.sitofp .f32 (BitVec.setWidth 32 (IntOp.cmpi .eq (idx (ix2 s 0)) (BitVec.ofNat 32 e))) : Ideal .f32))
        ≤ Ideal.ofBits .f32 0x41C80000#32)))) a (0 : EReal)
      = if Taken idx e t then a else 0 := by
  have h := select_taken idx e t a
  rw [← count_real] at h
  exact h

/-- Row `r` of block `g` is token `64 g + r`. -/
def token (g : Fin 8) (r : Fin 64) : Fin 512 := ⟨g.val * 64 + r.val, by omega⟩

/-- The masked rows. Entry `q` of row `r` of block `g` is the token's row, once masked by what the device's first
    expert takes, and once, from column 256 on, by what its second takes. Here `v` is the device's number. -/
theorem pay1_apply (v : ℕ) (idx : Choices) (x : Rows) (g : Fin 8) (r : Fin 64) (q : Fin 512) :
    k0_pay1 (F := Ideal) (BitVec.ofNat 32 v) idx x (ix3 g r q)
      = if h : q.val < 256 then (if Taken idx (2 * v) (token g r) then x (ix2 (token g r) ⟨q.val, h⟩) else 0)
        else (if Taken idx (2 * v + 1) (token g r) then x (ix2 (token g r) ⟨q.val - 256, by omega⟩) else 0) := by
  have e0 : IntOp.addi (0#32) (Scalar.muli (2#32) (BitVec.ofNat 32 v)) = BitVec.ofNat 32 (2 * v) := by
    apply BitVec.eq_of_toNat_eq; simp [IntOp.addi, Scalar.muli, IntOp.muli]
  have e1 : IntOp.addi (1#32) (Scalar.muli (2#32) (BitVec.ofNat 32 v)) = BitVec.ofNat 32 (2 * v + 1) := by
    apply BitVec.eq_of_toNat_eq; simp [IntOp.addi, Scalar.muli, IntOp.muli, Nat.add_comm]
  pointwise [k0_pay1]
  simp only [e0, e1]
  by_cases h : q.val < 256
  · simp only [dif_pos h]
    exact mask_real idx (2 * v) (token g r) _
  · simp only [dif_neg h]
    exact mask_real idx (2 * v + 1) (token g r) _

end Cert.Exchange

end
-- ==== Proof.Product.lean ====
/-
The kernel's own arithmetic at one index, second part: the product of the masked rows with the weights is, on each
device, the contribution of that device's two experts.
-/
module

public import proofs.«01_k».proof.Proof.Counted
public import proofs.«01_k».proof.Proof.Protocol

@[expose] public section

noncomputable section

namespace Cert.Exchange

open Cert.KernelIdeal Cert.KernelIdeal.Gen
open Idealize.ShloMosaic
open Idealize.ShloMosaic.TcCoe
open Cert.Exchange.Spec

/-- The weights of the two experts of a device. -/
abbrev Pair : Type := Vec Ideal ⟨3, ![2, 256, 512]⟩ .bf16

/-- The contribution, to entry `h` of token `t`'s result, of expert `2 v + j`, held as number `j` of a pair. -/
def share (x : Rows) (idx : Choices) (w : Pair) (v : ℕ) (j : Fin 2) (t h : Fin 512) : EReal :=
  if Taken idx (2 * v + j.val) t then ∑ k : Fin 256, x (ix2 t k) * w (ix3 j k h) else 0

/-- The two experts' weights, one above the other. -/
theorem pay3_apply (w : Pair) (q h : Fin 512) :
    k0_pay3 (F := Ideal) w (ix2 q h) = w (ix3 ⟨q.val / 256, by omega⟩ ⟨q.val % 256, by omega⟩ h) := by
  pointwise [k0_pay3]

/-- The masked rows are stored as they are. -/
theorem pay2_apply (y : Vec Ideal S8x64x512 .bf16) (g : Fin 8) (r : Fin 64) (q : Fin 512) :
    k0_pay2 (F := Ideal) y (ix3 g r q) = y (ix3 g r q) := by
  pointwise [k0_pay2]

/-- A product that is sent. -/
theorem pay9_apply (w : Vec Ideal S512x512 .bf16) (y : Vec Ideal S1x64x512 .bf16) (r : Fin 64) (h : Fin 512) :
    k0_pay9 (F := Ideal) w y (ix3 0 r h) = ∑ q : Fin 512, y (ix3 0 r q) * w (ix2 q h) := by
  pointwise [k0_pay9]

/-- The product a device keeps. -/
theorem pay13_apply (w : Vec Ideal S512x512 .bf16) (y : Vec Ideal S1x64x512 .bf16) (r : Fin 64) (h : Fin 512) :
    k0_pay13 (F := Ideal) w y (ix2 r h) = ∑ q : Fin 512, y (ix3 0 r q) * w (ix2 q h) := by
  pointwise [k0_pay13]

/-- The arrivals are added one after the other. -/
theorem pay14_apply (a : Vec Ideal S64x512 .f32) (y : Vec Ideal S1x64x512 .bf16) (r : Fin 64) (h : Fin 512) :
    k0_pay14 (F := Ideal) a y (ix2 r h) = a (ix2 r h) + y (ix3 0 r h) := by
  pointwise [k0_pay14]
theorem pay15_apply (a : Vec Ideal S64x512 .f32) (y z : Vec Ideal S1x64x512 .bf16) (r : Fin 64) (h : Fin 512) :
    k0_pay15 (F := Ideal) a y z (ix2 r h) = a (ix2 r h) + y (ix3 0 r h) + z (ix3 0 r h) := by
  pointwise [k0_pay15]
theorem pay16_apply (a : Vec Ideal S64x512 .f32) (y z : Vec Ideal S1x64x512 .bf16) (r : Fin 64) (h : Fin 512) :
    k0_pay16 (F := Ideal) a y z (ix2 r h) = a (ix2 r h) + y (ix3 0 r h) + z (ix3 0 r h) := by
  pointwise [k0_pay16]
theorem pay17_apply (a : Vec Ideal S64x512 .f32) (y z : Vec Ideal S1x64x512 .bf16) (r : Fin 64) (h : Fin 512) :
    k0_pay17 (F := Ideal) a y z (ix2 r h) = a (ix2 r h) + y (ix3 0 r h) + z (ix3 0 r h) := by
  pointwise [k0_pay17]

/-- A sum over 512 columns is the sum over the first 256 and the sum over the last 256. -/
theorem sum_halves (f : Fin 512 → EReal) :
    (∑ q : Fin 512, f q) = (∑ k : Fin 256, f ⟨k.val, by omega⟩) + ∑ k : Fin 256, f ⟨256 + k.val, by omega⟩ :=
  Fin.sum_univ_add (a := 256) (b := 256) f

/-- The product of row `r` of block `g` with the weights: the shares of the device's two experts. -/
theorem product_shares (v : ℕ) (x : Rows) (idx : Choices) (w : Pair) (g : Fin 8) (r : Fin 64) (h : Fin 512) :
    (∑ q : Fin 512, k0_pay1 (F := Ideal) (BitVec.ofNat 32 v) idx x (ix3 g r q) * k0_pay3 (F := Ideal) w (ix2 q h))
      = ∑ j : Fin 2, share x idx w v j (token g r) h := by
  rw [sum_halves, Fin.sum_univ_two]
  generalize hT : token g r = t
  have low (k : Fin 256) : k0_pay1 (F := Ideal) (BitVec.ofNat 32 v) idx x (ix3 g r ⟨k.val, by omega⟩) * k0_pay3 (F := Ideal) w (ix2 ⟨k.val, by omega⟩ h)
      = (if Taken idx (2 * v) t then x (ix2 t k) else 0) * w (ix3 0 k h) := by
    rw [pay1_apply, pay3_apply, hT]
    have h1 : (⟨k.val / 256, by omega⟩ : Fin 2) = 0 := Fin.ext (by simp)
    have h2 : (⟨k.val % 256, by omega⟩ : Fin 256) = k := Fin.ext (by simp)
    simp only [h1, h2, dif_pos k.isLt]
  have high (k : Fin 256) : k0_pay1 (F := Ideal) (BitVec.ofNat 32 v) idx x (ix3 g r ⟨256 + k.val, by omega⟩) * k0_pay3 (F := Ideal) w (ix2 ⟨256 + k.val, by omega⟩ h)
      = (if Taken idx (2 * v + 1) t then x (ix2 t k) else 0) * w (ix3 1 k h) := by
    rw [pay1_apply, pay3_apply, hT]
    have h0 : ¬ (256 + k.val < 256) := by omega
    have h1 : (⟨(256 + k.val) / 256, by omega⟩ : Fin 2) = 1 := Fin.ext (by simp)
    have h2 : (⟨(256 + k.val) % 256, by omega⟩ : Fin 256) = k := Fin.ext (by simp)
    have h3 : (⟨256 + k.val - 256, by omega⟩ : Fin 256) = k := Fin.ext (by simp)
    simp only [h1, h2, h3, dif_neg h0]
  congr 1
  · rw [Finset.sum_congr rfl fun k _ => low k]
    unfold share
    by_cases ht : Taken idx (2 * v) t
    · simp [ht]
    · simp [ht]
  · rw [Finset.sum_congr rfl fun k _ => high k]
    unfold share
    by_cases ht : Taken idx (2 * v + 1) t
    · simp [ht]
    · simp [ht]

end Cert.Exchange

end
-- ==== Proof.Gathered.lean ====
/-
What a device's result holds over the extended reals: the shares of all sixteen experts.
-/
module

public import proofs.«01_k».proof.Proof.Product

@[expose] public section

noncomputable section

namespace Cert.Exchange

open Cert.KernelIdeal Cert.KernelIdeal.Gen
open Idealize.ShloMosaic
open Idealize.ShloMosaic.TcCoe
open Cert.Exchange.Spec

variable (m : (ℓ : Loc nD τ sig) → Buf (Elt Ideal) ℓ) (ρ : Dev nD → PrngReg) (c : Dev nD)

/-- The kernel's own computation of the device's number is that number. -/
theorem devWord_eq : ∀ c : Dev nD, devWord c = BitVec.ofNat 32 c.val := by decide

/-- The masked rows, as an array of numbers. -/
abbrev rows : Vec Ideal S8x64x512 .bf16 := masked m ρ c

/-- The rows of transfer `o` are the masked rows of the block that belongs to the device the transfer goes to. -/
theorem sendRows_apply (o : Fin 7) (r : Fin 64) (q : Fin 512) :
    sendRows m ρ c o (ix3 0 r q) = rows m ρ c (ix3 (peer c o) r q) := by
  have h := k0_off1_eq c o
  refine congrArg (rows m ρ c) ?_
  funext a
  apply Fin.ext
  match a with
  | ⟨0, _⟩ => show k0_off1 c (BitVec.ofNat 32 (1 + o.val)) 0 + 1 * 0 = (c.val + o.val + 1) % 8; rw [h]; simp
  | ⟨1, _⟩ => show k0_off1 c (BitVec.ofNat 32 (1 + o.val)) 1 + 1 * r.val = r.val; rw [h]; simp
  | ⟨2, _⟩ => show k0_off1 c (BitVec.ofNat 32 (1 + o.val)) 2 + 1 * q.val = q.val; rw [h]; simp

/-- The rows a device keeps are those of its own block. -/
theorem ownRows_apply (r : Fin 64) (q : Fin 512) :
    ownRows m ρ c (ix3 0 r q) = rows m ρ c (ix3 c r q) := by
  have h := k0_off2_eq c
  refine congrArg (rows m ρ c) ?_
  funext a
  apply Fin.ext
  match a with
  | ⟨0, _⟩ => show k0_off2 c 0 + 1 * 0 = c.val; rw [h]; simp
  | ⟨1, _⟩ => show k0_off2 c 1 + 1 * r.val = r.val; rw [h]; simp
  | ⟨2, _⟩ => show k0_off2 c 2 + 1 * q.val = q.val; rw [h]; simp

/-- What device `c` contributes to entry `h` of row `r` of block `g`: the shares of its two experts. -/
def given (g : Fin 8) (r : Fin 64) (h : Fin 512) : EReal :=
  ∑ j : Fin 2, share (xAt m ρ c) (idxAt m ρ c) (wAt m ρ c) c.val j (token g r) h

theorem masked_product (g : Fin 8) (r : Fin 64) (h : Fin 512) :
    (∑ q : Fin 512, rows m ρ c (ix3 g r q) * weights m ρ c (ix2 q h)) = given m ρ c g r h := by
  unfold given
  rw [← product_shares]
  refine Finset.sum_congr rfl fun q _ => ?_
  unfold rows masked weights
  rw [pay2_apply, devWord_eq]

/-- What transfer `o` carries is the sender's contribution to the rows of the device it goes to. -/
theorem parcel_apply (o : Fin 7) (r : Fin 64) (h : Fin 512) :
    parcel m ρ c o (ix3 0 r h) = given m ρ c (peer c o) r h := by
  unfold parcel
  rw [pay9_apply, ← masked_product]
  exact Finset.sum_congr rfl fun q _ => by rw [sendRows_apply]

/-- What arrives in slot `o` is the contribution of the device it comes from to the receiver's own rows. -/
theorem arrival_apply (o : Fin 7) (r : Fin 64) (h : Fin 512) :
    arrival m ρ c o (ix3 0 r h) = given m ρ (origin c o) c r h := by
  have := parcel_apply m ρ (origin c o) o r h
  rwa [peer_origin] at this

/-- A device and the seven it receives from are all the devices. -/
theorem sum_devices (f : Dev nD → EReal) :
    (∑ d : Dev nD, f d) = f c + ∑ o : Fin 7, f (origin c o) := by
  have hb : Function.Bijective (fun s : Option (Fin 7) => s.elim c (origin c)) := by revert c; decide
  rw [← Function.Bijective.sum_comp hb, Fintype.sum_option]
  rfl

/-- Entry `h` of row `r` of device `c`'s result: the contributions of all the devices to it. -/
theorem outAt_apply (r : Fin 64) (h : Fin 512) :
    outAt m ρ c (ix2 r h) = ∑ d : Dev nD, given m ρ d c r h := by
  unfold outAt
  rw [pay17_apply, pay16_apply, pay15_apply, pay14_apply, pay13_apply]
  simp only [arrival_apply]
  have ho : (∑ q : Fin 512, ownRows m ρ c (ix3 0 r q) * weights m ρ c (ix2 q h)) = given m ρ c c r h := by
    rw [← masked_product]
    exact Finset.sum_congr rfl fun q _ => by rw [ownRows_apply]
  rw [ho, sum_devices c]
  simp only [Fin.sum_univ_seven, add_assoc]

end Cert.Exchange

end
-- ==== Proof.RefValue.lean ====
/-
What the reference computes: its composed term, read at an index, is the sum over the experts that `Spec` states.
-/
module

public import proofs.«01_k».proof.Proof.Gen.ReferenceIdeal.Read
public import proofs.«01_k».proof.Proof.Spec
public import Idealize.ShloMosaic.Lib.Routing.OpsOne

@[expose] public section

noncomputable section

namespace Cert.Exchange

open Cert.ReferenceIdeal Cert.ReferenceIdeal.Gen Cert.ReferenceIdeal.Read
open Idealize.ShloMosaic
open Cert.Exchange.Spec

/-- The reference's one-hot table. -/
theorem ref_chose (idx : Choices) (t : Fin 512) (e : Fin 16) :
    val_main_v4 (F := Ideal) idx (ix2 t e) = BitVec.ofBool (decide (Chose idx e.val t)) := by
  pointwise [val_main_v4, val_main_v2, val_main_v3, val_main_v1, val_main_v0]
  unfold Chose
  show BitVec.ofBool (_ == _) = _
  congr 1

/-- Its running count, as a word. -/
theorem ref_count (idx : Choices) (t : Fin 512) (e : Fin 16) :
    val_main_v6 (F := Ideal) idx (ix2 t e) = BitVec.ofNat 32 (upTo idx e.val t) := by
  unfold val_main_v6
  rw [ix2_eq_valueIdx]
  refine (Routing.cumsum_rows_sum (A := 512) (Am1 := 511) (N := 16) rfl _ _ rfl _ _ t e).trans ?_
  rw [← BitVec.natCast_eq_ofNat, ← sum_upTo]
  refine Finset.sum_congr rfl fun s _ => ?_
  rw [← ix2_eq_valueIdx]
  have h : val_main_v5 (F := Ideal) idx (ix2 s e) = if Chose idx e.val s then 1#32 else 0#32 := by
    rw [val_main_v5_apply, ref_chose]
    by_cases h : Chose idx e.val s <;> simp [h]
  rw [h]
  by_cases h1 : s ≤ t <;> by_cases h2 : Chose idx e.val s <;> simp [h1, h2]

/-- Its mask: the expert takes the token. The exclusive count is below twenty-five exactly when the inclusive count
    is at most twenty-five. -/
theorem ref_taken (idx : Choices) (t : Fin 512) (e : Fin 16) :
    val_main_v10 (F := Ideal) idx (ix2 t e) = BitVec.ofBool (decide (Taken idx e.val t)) := by
  rw [val_main_v10_apply, val_main_v9_apply, val_main_v7_apply, val_main_v5_apply, ref_chose, ref_count]
  have h8 : val_main_v8 (F := Ideal) (ix2 t e) = 25#32 := by
    pointwise [val_main_v8, val_main_c]
  rw [h8]
  unfold Taken
  by_cases h : Chose idx e.val t
  · have h1 := upTo_pos h
    have h2 := upTo_le idx e.val t
    have hs : IntOp.subi (BitVec.ofNat 32 (upTo idx e.val t)) (BitVec.setWidth 32 (BitVec.ofBool true)) = BitVec.ofNat 32 (upTo idx e.val t - 1) := by
      apply BitVec.eq_of_toNat_eq
      simp [IntOp.subi]
      omega
    have hl : IntOp.cmpi .slt (BitVec.ofNat 32 (upTo idx e.val t - 1)) 25#32 = BitVec.ofBool (decide (upTo idx e.val t ≤ 25)) := by
      show BitVec.ofBool ((BitVec.ofNat 32 _).slt _) = _
      congr 1
      rw [BitVec.slt_eq_decide]
      congr 1
      rw [BitVec.toInt_eq_toNat_of_lt (by simp; omega), BitVec.toInt_eq_toNat_of_lt (by simp)]
      simp
      omega
    rw [decide_eq_true h, hs, hl]
    by_cases h3 : upTo idx e.val t ≤ 25 <;> simp [h, h3, IntOp.andi]
  · simp [h, IntOp.andi]

/-- The reference's result at token `t`, entry `h`. -/
theorem ref_total (x : Rows) (idx : Choices) (W : Experts) (t h : Fin 512) :
    val_main_v16 (F := Ideal) x idx W (ix2 t h) = total x idx W t h := by
  rw [val_main_v16_apply]
  have h0 : val_main_cst_0 (F := Ideal) (Shape.Idx.first Cert.ReferenceIdeal.Gen.h_S_) = 0 := by
    rw [val_main_cst_0_apply]; exact Ideal.ofBits_zero_f32
  rw [h0, zero_add]
  unfold total part
  refine Finset.sum_congr rfl fun e _ => ?_
  rw [val_main_v15_apply, val_main_v13_apply, val_main_call1_v1_apply, val_main_v14_apply]
  have hi : idx_main_v14 (idx_main_call1_v1 (idx_main_v16 (ix2 t h) e)) = ix2 t e := by
    funext i; match i with | ⟨0, _⟩ => rfl | ⟨1, _⟩ => rfl
  have hz : val_main_call1_v2 (F := Ideal) (idx_main_v16 (ix2 t h) e) = 0 := by
    rw [val_main_call1_v2_apply, val_main_call1_v0_apply, val_main_cst_apply]; exact Ideal.ofBits_zero_f32
  rw [hi, ref_taken, hz]
  by_cases ht : Taken idx e.val t
  · rw [decide_eq_true ht, if_pos ht]
    refine (ValueIdx.select_one _ _).trans ?_
    refine Finset.sum_congr rfl fun k _ => ?_
    have hx : lidx_main_v13 (idx_main_v16 (ix2 t h) e) k = ix2 t k := by
      funext i; match i with | ⟨0, _⟩ => rfl | ⟨1, _⟩ => rfl
    have hw : ridx_main_v13 (idx_main_v16 (ix2 t h) e) k = ix3 e k h := by
      funext i; match i with | ⟨0, _⟩ => rfl | ⟨1, _⟩ => rfl | ⟨2, _⟩ => rfl
    rw [hx, hw]
    rfl
  · rw [decide_eq_false ht, if_neg ht]
    rfl

end Cert.Exchange

end
-- ==== Proof.Equation.lean ====
/-
The equation: device `c`'s result is block `c` of the reference's.
-/
module

public import proofs.«01_k».proof.Proof.Gathered
public import proofs.«01_k».proof.Proof.RefValue
public import Idealize.ShloMosaic.Lib.Layout

@[expose] public section

noncomputable section

namespace Cert.Exchange

open Cert.KernelIdeal Cert.KernelIdeal.Gen
open Idealize.ShloMosaic
open Idealize.ShloMosaic.TcCoe
open Cert.Exchange.Spec

/-- The pair of experts number `d` of the eight that the sixteen are cut into. -/
abbrev pair (W : Experts) (d : Fin 8) : Pair := Layout.block ⟨3, ![2, 256, 512]⟩ ⟨3, ![16, 256, 512]⟩ 0 8 d W

/-- Expert `j` of pair `d`. -/
def expert (d : Fin 8) (j : Fin 2) : Fin 16 := ⟨2 * d.val + j.val, by omega⟩

/-- The weights of expert `j` of pair `d` are those of expert `2 d + j`. -/
theorem pair_apply (W : Experts) (d : Fin 8) (j : Fin 2) (k : Fin 256) (h : Fin 512) :
    pair W d (ix3 j k h) = W (ix3 (expert d j) k h) := by
  refine congrArg W ?_
  funext a
  apply Fin.ext
  match a with
  | ⟨0, _⟩ => show d.val * 2 + j.val = 2 * d.val + j.val; omega
  | ⟨1, _⟩ => rfl
  | ⟨2, _⟩ => rfl

/-- A device's share is the contribution of the expert it stands for. -/
theorem share_part (x : Rows) (idx : Choices) (W : Experts) (d : Fin 8) (j : Fin 2) (t h : Fin 512) :
    share x idx (pair W d) d.val j t h = part x idx W (expert d j) t h := by
  have h : (∑ k : Fin 256, x (ix2 t k) * pair W d (ix3 j k h)) = ∑ k : Fin 256, x (ix2 t k) * W (ix3 (expert d j) k h) :=
    Finset.sum_congr rfl fun k _ => by rw [pair_apply]
  unfold share part
  rw [h]
  rfl

/-- Summing over the devices and their two experts is summing over the sixteen experts. -/
theorem sum_experts (f : Fin 16 → EReal) : (∑ d : Fin 8, ∑ j : Fin 2, f (expert d j)) = ∑ e : Fin 16, f e := by
  rw [← Fintype.sum_prod_type']
  have hb : Function.Bijective (fun p : Fin 8 × Fin 2 => expert p.1 p.2) := by decide
  exact hb.sum_comp f

variable (m : (ℓ : Loc nD τ sig) → Buf (Elt Ideal) ℓ) (ρ : Dev nD → PrngReg)

/-- If every device is given the whole rows and choices and its own pair of experts, device `c`'s result is block `c`
    of the reference's. -/
theorem outAt_block (x : Rows) (idx : Choices) (W : Experts) (hx : ∀ d, xAt m ρ d = x) (hi : ∀ d, idxAt m ρ d = idx)
    (hw : ∀ d, wAt m ρ d = pair W d) (c : Dev nD) :
    outAt m ρ c = Layout.block ⟨2, ![64, 512]⟩ ⟨2, ![512, 512]⟩ 0 8 c (Cert.ReferenceIdeal.Read.val_main_v16 (F := Ideal) x idx W) := by
  funext i
  obtain ⟨r, h, rfl⟩ : ∃ (r : Fin 64) (h : Fin 512), i = ix2 r h :=
    ⟨i 0, i 1, by funext a; match a with | ⟨0, _⟩ => rfl | ⟨1, _⟩ => rfl⟩
  have hblock : Layout.block ⟨2, ![64, 512]⟩ ⟨2, ![512, 512]⟩ 0 8 c (Cert.ReferenceIdeal.Read.val_main_v16 (F := Ideal) x idx W) (by decide) (ix2 r h)
      = Cert.ReferenceIdeal.Read.val_main_v16 (F := Ideal) x idx W (ix2 (token c r) h) := by
    refine congrArg (Cert.ReferenceIdeal.Read.val_main_v16 (F := Ideal) x idx W) ?_
    funext a
    match a with
    | ⟨0, _⟩ => rfl
    | ⟨1, _⟩ => rfl
  have hsum : (∑ d : Dev nD, given m ρ d c r h) = total x idx W (token c r) h := by
    unfold total
    rw [← sum_experts]
    refine Finset.sum_congr rfl fun d _ => ?_
    unfold given
    rw [hx, hi, hw]
    exact Finset.sum_congr rfl fun j _ => share_part x idx W d j (token c r) h
  exact (outAt_apply m ρ c r h).trans (hsum.trans ((ref_total x idx W (token c r) h).symm.trans hblock.symm))

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.SameText
public import proofs.«01_k».proof.Proof.Launch
public import proofs.«01_k».proof.Proof.Whole
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The run of the idealized kernel's text over any floats, its values dropped. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨fun c => Cert.Exchange.args_kept m ρ r h.1 c, h.2⟩)
    (Cert.Exchange.run_main m ρ)

/-- The kernel's frame, at the machine's own floats: the two programs have the same text. -/
theorem frame_kernel : Cert.quiescent_Kernel := fun m ρ _ => by
  have h := frame_any (F := Bits) m ρ
  rw [Cert.Exchange.tables_eq] at h
  exact h

/-- The idealized kernel's frame: the same run over the extended reals. -/
theorem frame_kernelIdeal : Cert.quiescent_KernelIdeal := fun m ρ _ => frame_any (F := Ideal) m ρ

/-- The reference's frame. It has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel computes the reference's function: device `c`'s result is block `c` of the reference's. -/
theorem value : Cert.algebraic_KernelIdeal_ReferenceIdeal := by
  intro m ρ m' ρ' _ hin
  refine ⟨Cert.ReferenceIdeal.Read.val_main_v16 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, Cert.Exchange.args_kept m ρ r h.1 c⟩)
      (Cert.Exchange.run_main (F := Ideal) m ρ)
    refine ((h.1 c).1 (3 : Fin 4)).trans ((Cert.Exchange.final_out m ρ c).trans ?_)
    exact Cert.Exchange.outAt_block m ρ _ _ _ (fun d => (Cert.Exchange.xAt_eq m ρ d).trans (hin d).1)
      (fun d => (Cert.Exchange.idxAt_eq m ρ d).trans (hin d).2.2.1)
      (fun d => (Cert.Exchange.wAt_eq m ρ d).trans (hin d).2.2.2) c
  · exact (θ_run Cert.ReferenceIdeal.defs _ _).mono
      (fun r h => ⟨(h 0).1.trans (Cert.ReferenceIdeal.Read.val_main_v16_eq ..), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, value⟩

end Cert.Proof

end
